-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_and_labels_tame [hPre_logits_and_labels_tame : Cert.Pre_logits_and_labels_tame.Facts] (m : (ℓ : Loc Cert.KernelIdeal.nD Cert.KernelIdeal.τ Cert.KernelIdeal.sig) → Buf (Elt Ideal) ℓ) : Prop :=
  ∀ c : Dev Cert.KernelIdeal.nD,
    (Cert.Pre_logits_and_labels_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_and_labels_tame [hPre_logits_and_labels_tame : Cert.Pre_logits_and_labels_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_and_labels_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_logits_and_labels_tame [hKernelIdeal : Cert.KernelIdeal.Facts] [hPre_logits_and_labels_tame : Cert.Pre_logits_and_labels_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_and_labels_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_logits_and_labels_tame [hReferenceIdeal : Cert.ReferenceIdeal.Facts] [hPre_logits_and_labels_tame : Cert.Pre_logits_and_labels_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_and_labels_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "bound1" .bf16 0x3DCD#16 ((1 / 10 : ℝ) : EReal)
  ∧ IdealRules.named_const.Statement Cert.KernelIdeal.κ "bound2" .bf16 0x3E4D#16 ((1 / 5 : ℝ) : EReal)
  ∧ IdealRules.named_const.Statement Cert.KernelIdeal.κ "bound3" .bf16 0x3E9A#16 ((3 / 10 : ℝ) : EReal)
  ∧ IdealRules.named_const.Statement Cert.KernelIdeal.κ "bound4" .bf16 0x3ECD#16 ((2 / 5 : ℝ) : EReal)
  ∧ IdealRules.named_const.Statement Cert.KernelIdeal.κ "bound6" .bf16 0x3F1A#16 ((3 / 5 : ℝ) : EReal)
  ∧ IdealRules.named_const.Statement Cert.KernelIdeal.κ "bound7" .bf16 0x3F33#16 ((7 / 10 : ℝ) : EReal)
  ∧ IdealRules.named_const.Statement Cert.KernelIdeal.κ "bound8" .bf16 0x3F4D#16 ((4 / 5 : ℝ) : EReal)
  ∧ IdealRules.named_const.Statement Cert.KernelIdeal.κ "bound9" .bf16 0x3F66#16 ((9 / 10 : ℝ) : EReal)

def algebraic_KernelIdeal_ReferenceIdeal_pre_logits_and_labels_tame [hKernelIdeal : Cert.KernelIdeal.Facts] [hReferenceIdeal : Cert.ReferenceIdeal.Facts] [hPre_logits_and_labels_tame : Cert.Pre_logits_and_labels_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_and_labels_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_logits_and_labels_tame : Cert.Pre_logits_and_labels_tame.Facts),
    quiescent_Kernel (hKernel := hKernel)
    ∧ quiescent_KernelIdeal (hKernelIdeal := hKernelIdeal)
    ∧ quiescent_KernelIdeal_pre_logits_and_labels_tame (hKernelIdeal := hKernelIdeal) (hPre_logits_and_labels_tame := hPre_logits_and_labels_tame)
    ∧ quiescent_ReferenceIdeal (hReferenceIdeal := hReferenceIdeal)
    ∧ quiescent_ReferenceIdeal_pre_logits_and_labels_tame (hReferenceIdeal := hReferenceIdeal) (hPre_logits_and_labels_tame := hPre_logits_and_labels_tame)
    ∧ preserves_Kernel_KernelIdeal
    ∧ algebraic_KernelIdeal_ReferenceIdeal_pre_logits_and_labels_tame (hKernelIdeal := hKernelIdeal) (hReferenceIdeal := hReferenceIdeal) (hPre_logits_and_labels_tame := hPre_logits_and_labels_tame)
-- ==== Pre_logits_and_labels_tame.lean ====
abbrev S8x1024x1024 : Shape := ⟨3, ![8, 1024, 1024]⟩
abbrev S8x4096 : Shape := ⟨2, ![8, 4096]⟩
abbrev S_ : Shape := ⟨0, ![]⟩

class Facts : Prop where
  bcast_S_S8x1024x1024 : S_.BroadcastsInDim S8x1024x1024 (![] : Fin 0 → Fin S8x1024x1024.rank)

variable [Facts]

def fn {F : FTy → Type} [FloatOps F] (main_arg0 : FVec F S8x1024x1024 .f32) (main_arg1 : FVec F S8x1024x1024 .f32) (main_arg2 : FVec F S8x1024x1024 .f32) (main_arg3 : FVec F S8x1024x1024 .f32) (main_arg4 : FVec F S8x1024x1024 .f32) (main_arg5 : FVec F S8x4096 .f32) : IVec S8x1024x1024 1 :=
  let main_v0 : FVec F S8x1024x1024 .f32 := Host.absf main_arg0
  let main_cst : FVec F S_ .f32 := constant S_ .f32 0x42C60000#32
  let main_v1 : FVec F S8x1024x1024 .f32 := broadcastInDim S8x1024x1024 ![] bcast_S_S8x1024x1024 main_cst
  let main_v2 : IVec S8x1024x1024 1 := cmpf .ole main_v0 main_v1
  let main_v3 : FVec F S8x1024x1024 .f32 := Host.absf main_arg1
  let main_cst_0 : FVec F S_ .f32 := constant S_ .f32 0x7F800000#32
  let main_v4 : FVec F S8x1024x1024 .f32 := broadcastInDim S8x1024x1024 ![] bcast_S_S8x1024x1024 main_cst_0
  let main_v5 : IVec S8x1024x1024 1 := cmpf .olt main_v3 main_v4
  let main_v6 : IVec S8x1024x1024 1 := andi main_v2 main_v5
  main_v6
-- ==== Kernel.lean ====
abbrev S8x1024x1024 : Shape := ⟨3, ![8, 1024, 1024]⟩
abbrev S8x4096 : Shape := ⟨2, ![8, 4096]⟩
abbrev S8x1x4096 : Shape := ⟨3, ![8, 1, 4096]⟩
abbrev S8x1x128 : Shape := ⟨3, ![8, 1, 128]⟩
abbrev S1x256x1024 : Shape := ⟨3, ![1, 256, 1024]⟩
abbrev S1x1x4096 : Shape := ⟨3, ![1, 1, 4096]⟩
abbrev S1x1x128 : Shape := ⟨3, ![1, 1, 128]⟩
abbrev S23x16x128 : Shape := ⟨3, ![23, 16, 128]⟩
abbrev S16x128 : Shape := ⟨2, ![16, 128]⟩
abbrev S1x16x512 : Shape := ⟨3, ![1, 16, 512]⟩
abbrev S16x512 : Shape := ⟨2, ![16, 512]⟩
abbrev S1x16x128 : Shape := ⟨3, ![1, 16, 128]⟩
abbrev S1 : Shape := ⟨1, ![1]⟩
abbrev S1x1x1 : Shape := ⟨3, ![1, 1, 1]⟩
abbrev S1x4096 : Shape := ⟨2, ![1, 4096]⟩
abbrev S1x128 : Shape := ⟨2, ![1, 128]⟩
abbrev S8x1x4 : Shape := ⟨3, ![8, 1, 4]⟩
abbrev S8x4 : Shape := ⟨2, ![8, 4]⟩
abbrev S8x1 : Shape := ⟨2, ![8, 1]⟩
abbrev S8 : Shape := ⟨1, ![8]⟩
abbrev S_ : Shape := ⟨0, ![]⟩

abbrev nBuf : Space → Nat
  | .hbm => 39
  | .vmem => 15
  | .smem => 0
  | _ => 0

abbrev bufTy : (tb : Table) → Fin (tcTables nBuf tb) → BufTy
  | .hbm, ⟨0, _⟩ => ⟨S8x1024x1024, .f32⟩
  | .hbm, ⟨1, _⟩ => ⟨S8x1024x1024, .f32⟩
  | .hbm, ⟨2, _⟩ => ⟨S8x1024x1024, .f32⟩
  | .hbm, ⟨3, _⟩ => ⟨S8x1024x1024, .f32⟩
  | .hbm, ⟨4, _⟩ => ⟨S8x1024x1024, .f32⟩
  | .hbm, ⟨5, _⟩ => ⟨S8x4096, .f32⟩
  | .hbm, ⟨6, _⟩ => ⟨S8x1x4096, .f32⟩
  | .hbm, ⟨7, _⟩ => ⟨S8x1x128, .f32⟩
  | .hbm, ⟨8, _⟩ => ⟨S8x1x4, .f32⟩
  | .hbm, ⟨9, _⟩ => ⟨S8x4, .f32⟩
  | .hbm, ⟨10, _⟩ => ⟨S8x1, .f32⟩
  | .hbm, ⟨11, _⟩ => ⟨S8, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x1, .f32⟩
  | .hbm, ⟨17, _⟩ => ⟨S8, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8x1, .f32⟩
  | .hbm, ⟨23, _⟩ => ⟨S8, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x1, .f32⟩
  | .hbm, ⟨29, _⟩ => ⟨S8, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1x4096, .f32⟩
  | .local _ .vmem, ⟨11, _⟩ => ⟨S1x1x4096, .f32⟩
  | .local _ .vmem, ⟨12, _⟩ => ⟨S1x1x128, .f32⟩
  | .local _ .vmem, ⟨13, _⟩ => ⟨S1x1x128, .f32⟩
  | .local _ .vmem, ⟨14, _⟩ => ⟨S23x16x128, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v8932 : BitVec 1 := Scalar.cmpi .eq arg1 c3_i32
  let v8933 : BitVec 32 := Scalar.extui v8932
  let c0_i32_1702 : BitVec 32 := 0#32
  let v8934 : BitVec 1 := Scalar.cmpi .ne v8933 c0_i32_1702
  v8934

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== KernelIdeal.lean ====
variable {F : FTy → Type} [FloatOps F] [Named F]
def κ : String → Option EReal := fun
  | "bound1" => some ((1 / 10 : ℝ) : EReal)
  | "bound2" => some ((1 / 5 : ℝ) : EReal)
  | "bound3" => some ((3 / 10 : ℝ) : EReal)
  | "bound4" => some ((2 / 5 : ℝ) : EReal)
  | "bound6" => some ((3 / 5 : ℝ) : EReal)
  | "bound7" => some ((7 / 10 : ℝ) : EReal)
  | "bound8" => some ((4 / 5 : ℝ) : EReal)
  | "bound9" => some ((9 / 10 : ℝ) : EReal)
  | _ => none
-- ==== ReferenceIdeal.lean ====
abbrev S8x1024x1024 : Shape := ⟨3, ![8, 1024, 1024]⟩
abbrev S8x4096 : Shape := ⟨2, ![8, 4096]⟩
abbrev S_ : Shape := ⟨0, ![]⟩
abbrev S10 : Shape := ⟨1, ![10]⟩
abbrev S1 : Shape := ⟨1, ![1]⟩
abbrev S11 : Shape := ⟨1, ![11]⟩
abbrev S8x1048576 : Shape := ⟨2, ![8, 1048576]⟩
abbrev S1x11 : Shape := ⟨2, ![1, 11]⟩
abbrev S8x1048576x1 : Shape := ⟨3, ![8, 1048576, 1]⟩
abbrev S1x1x11 : Shape := ⟨3, ![1, 1, 11]⟩
abbrev S8x1048576x11 : Shape := ⟨3, ![8, 1048576, 11]⟩
abbrev S1048576 : Shape := ⟨1, ![1048576]⟩
abbrev S8x1x1048576 : Shape := ⟨3, ![8, 1, 1048576]⟩
abbrev S11x1 : Shape := ⟨2, ![11, 1]⟩
abbrev S1x11x1 : Shape := ⟨3, ![1, 11, 1]⟩
abbrev S8x11x1048576 : Shape := ⟨3, ![8, 11, 1048576]⟩
abbrev S1x1048576 : Shape := ⟨2, ![1, 1048576]⟩
abbrev S11x1048576 : Shape := ⟨2, ![11, 1048576]⟩
abbrev S8x11 : Shape := ⟨2, ![8, 11]⟩
abbrev S8x10 : Shape := ⟨2, ![8, 10]⟩
abbrev S8 : Shape := ⟨1, ![8]⟩

abbrev nBuf : Space → Nat
  | .hbm => 207
  | .vmem => 0
  | .smem => 0
  | _ => 0

abbrev hbmTy0_0 (i : Nat) : BufTy := match i % 128 with
  | 0 => ⟨S8x1024x1024, .f32⟩
  | 1 => ⟨S8x1024x1024, .f32⟩
  | 2 => ⟨S8x1024x1024, .f32⟩
  | 3 => ⟨S8x1024x1024, .f32⟩
  | 4 => ⟨S8x1024x1024, .f32⟩
  | 5 => ⟨S8x4096, .f32⟩
  | 6 => ⟨S8x1024x1024, .f32⟩
  | 7 => ⟨S8x1024x1024, .f32⟩
  | 8 => ⟨S_, .f32⟩
  | 9 => ⟨S8x1024x1024, .f32⟩
  | 10 => ⟨S8x1024x1024, .f32⟩
  | 11 => ⟨S_, .f32⟩
  | 12 => ⟨S8x1024x1024, .f32⟩
  | 13 => ⟨S8x1024x1024, .f32⟩
  | 14 => ⟨S8x1024x1024, .f32⟩
  | 15 => ⟨S_, .f32⟩
  | 16 => ⟨S_, .f32⟩
  | 17 => ⟨S8x1024x1024, .f32⟩
  | 18 => ⟨S8x1024x1024, .f32⟩
  | 19 => ⟨S8x1024x1024, .f32⟩
  | 20 => ⟨S8x1024x1024, .f32⟩
  | 21 => ⟨S_, .f32⟩
  | 22 => ⟨S_, .f32⟩
  | 23 => ⟨S8x1024x1024, .f32⟩
  | 24 => ⟨S8x1024x1024, .f32⟩
  | 25 => ⟨S8x1024x1024, .f32⟩
  | 26 => ⟨S_, .f32⟩
  | 27 => ⟨S8x1024x1024, .f32⟩
  | 28 => ⟨S8x1024x1024, .f32⟩
  | 29 => ⟨S8x1024x1024, .f32⟩
  | 30 => ⟨S8x1024x1024, .f32⟩
  | 31 => ⟨S8x1024x1024, .f32⟩
  | 32 => ⟨S_, .f32⟩
  | 33 => ⟨S8x1024x1024, .f32⟩
  | 34 => ⟨S8x1024x1024, .f32⟩
  | 35 => ⟨S_, .f32⟩
  | 36 => ⟨S8x1024x1024, .f32⟩
  | 37 => ⟨S8x1024x1024, .f32⟩
  | 38 => ⟨S8x1024x1024, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S10, .f32⟩
  | 51 => ⟨S_, .f32⟩
  | 52 => ⟨S10, .f32⟩
  | 53 => ⟨S10, .f32⟩
  | 54 => ⟨S1, .f32⟩
  | 55 => ⟨S_, .f32⟩
  | 56 => ⟨S10, .f32⟩
  | 57 => ⟨S10, .f32⟩
  | 58 => ⟨S10, .f32⟩
  | 59 => ⟨S10, .f32⟩
  | 60 => ⟨S1, .f32⟩
  | 61 => ⟨S10, .f32⟩
  | 62 => ⟨S10, .f32⟩
  | 63 => ⟨S10, .f32⟩
  | 64 => ⟨S1, .f32⟩
  | 65 => ⟨S11, .f32⟩
  | 66 => ⟨S8x1048576, .f32⟩
  | 67 => ⟨S8x1048576, .f32⟩
  | 68 => ⟨S1x11, .f32⟩
  | 69 => ⟨S8x1048576x1, .f32⟩
  | 70 => ⟨S1x1x11, .f32⟩
  | 71 => ⟨S8x1048576x11, .f32⟩
  | 72 => ⟨S8x1048576x11, .f32⟩
  | 73 => ⟨S8x1048576x11, .i1⟩
  | 74 => ⟨S8x1048576x11, .i32⟩
  | 75 => ⟨S_, .i32⟩
  | 76 => ⟨S8x1048576, .i32⟩
  | 77 => ⟨S_, .i32⟩
  | 78 => ⟨S8x1048576, .i32⟩
  | 79 => ⟨S8x1048576, .i32⟩
  | 80 => ⟨S_, .i32⟩
  | 81 => ⟨S_, .i32⟩
  | 82 => ⟨S_, .i32⟩
  | 83 => ⟨S8x1048576, .i32⟩
  | 84 => ⟨S8x1048576, .i32⟩
  | 85 => ⟨S_, .i32⟩
  | 86 => ⟨S8x1048576, .i32⟩
  | 87 => ⟨S8x1048576, .i32⟩
  | 88 => ⟨S_, .f32⟩
  | 89 => ⟨S1048576, .f32⟩
  | 90 => ⟨S8x1x1048576, .i32⟩
  | 91 => ⟨S11, .i32⟩
  | 92 => ⟨S11x1, .i32⟩
  | 93 => ⟨S1x11x1, .i32⟩
  | 94 => ⟨S8x11x1048576, .i32⟩
  | 95 => ⟨S8x11x1048576, .i32⟩
  | 96 => ⟨S8x11x1048576, .i1⟩
  | 97 => ⟨S1x1048576, .f32⟩
  | 98 => ⟨S_, .f32⟩
  | 99 => ⟨S_, .f32⟩
  | 100 => ⟨S11x1048576, .f32⟩
  | 101 => ⟨S11x1048576, .f32⟩
  | 102 => ⟨S8x11x1048576, .f32⟩
  | 103 => ⟨S8x11x1048576, .f32⟩
  | 104 => ⟨S8x11x1048576, .f32⟩
  | 105 => ⟨S_, .f32⟩
  | 106 => ⟨S8x11, .f32⟩
  | 107 => ⟨S8x10, .f32⟩
  | 108 => ⟨S8x1x1048576, .i32⟩
  | 109 => ⟨S11, .i32⟩
  | 110 => ⟨S11x1, .i32⟩
  | 111 => ⟨S1x11x1, .i32⟩
  | 112 => ⟨S8x11x1048576, .i32⟩
  | 113 => ⟨S8x11x1048576, .i32⟩
  | 114 => ⟨S8x11x1048576, .i1⟩
  | 115 => ⟨S8x1x1048576, .f32⟩
  | 116 => ⟨S_, .f32⟩
  | 117 => ⟨S_, .f32⟩
  | 118 => ⟨S8x11x1048576, .f32⟩
  | 119 => ⟨S11x1048576, .f32⟩
  | 120 => ⟨S8x11x1048576, .f32⟩
  | 121 => ⟨S8x11x1048576, .f32⟩
  | 122 => ⟨S_, .f32⟩
  | 123 => ⟨S8x11, .f32⟩
  | 124 => ⟨S8x10, .f32⟩
  | 125 => ⟨S8x1x1048576, .i32⟩
  | 126 => ⟨S11, .i32⟩
  | 127 => ⟨S11x1, .i32⟩
  | _ => ⟨S8x1024x1024, .f32⟩

abbrev hbmTy0_1 (i : Nat) : BufTy := match i % 128 with
  | 0 => ⟨S1x11x1, .i32⟩
  | 1 => ⟨S8x11x1048576, .i32⟩
  | 2 => ⟨S8x11x1048576, .i32⟩
  | 3 => ⟨S8x11x1048576, .i1⟩
  | 4 => ⟨S8x1x1048576, .f32⟩
  | 5 => ⟨S_, .f32⟩
  | 6 => ⟨S_, .f32⟩
  | 7 => ⟨S8x11x1048576, .f32⟩
  | 8 => ⟨S11x1048576, .f32⟩
  | 9 => ⟨S8x11x1048576, .f32⟩
  | 10 => ⟨S8x11x1048576, .f32⟩
  | 11 => ⟨S_, .f32⟩
  | 12 => ⟨S8x11, .f32⟩
  | 13 => ⟨S8x10, .f32⟩
  | 14 => ⟨S_, .f32⟩
  | 15 => ⟨S8x10, .f32⟩
  | 16 => ⟨S8x10, .i1⟩
  | 17 => ⟨S_, .f32⟩
  | 18 => ⟨S_, .f32⟩
  | 19 => ⟨S10, .f32⟩
  | 20 => ⟨S8x10, .f32⟩
  | 21 => ⟨S8x10, .f32⟩
  | 22 => ⟨S8x10, .f32⟩
  | 23 => ⟨S8x10, .f32⟩
  | 24 => ⟨S8x10, .f32⟩
  | 25 => ⟨S8x10, .f32⟩
  | 26 => ⟨S8x10, .f32⟩
  | 27 => ⟨S_, .f32⟩
  | 28 => ⟨S8, .f32⟩
  | 29 => ⟨S_, .f32⟩
  | 30 => ⟨S8, .f32⟩
  | 31 => ⟨S8, .i1⟩
  | 32 => ⟨S_, .f32⟩
  | 33 => ⟨S_, .f32⟩
  | 34 => ⟨S10, .f32⟩
  | 35 => ⟨S8x10, .f32⟩
  | 36 => ⟨S8x10, .f32⟩
  | 37 => ⟨S_, .f32⟩
  | 38 => ⟨S8, .f32⟩
  | 39 => ⟨S_, .f32⟩
  | 40 => ⟨S8, .f32⟩
  | 41 => ⟨S8, .f32⟩
  | 42 => ⟨S8, .f32⟩
  | 43 => ⟨S_, .f32⟩
  | 44 => ⟨S_, .f32⟩
  | 45 => ⟨S8, .f32⟩
  | 46 => ⟨S8, .f32⟩
  | 47 => ⟨S_, .f32⟩
  | 48 => ⟨S_, .f32⟩
  | 49 => ⟨S_, .f32⟩
  | 50 => ⟨S_, .f32⟩
  | 51 => ⟨S_, .f32⟩
  | 52 => ⟨S8x4096, .f32⟩
  | 53 => ⟨S8x4096, .f32⟩
  | 54 => ⟨S_, .f32⟩
  | 55 => ⟨S8x4096, .f32⟩
  | 56 => ⟨S8x4096, .f32⟩
  | 57 => ⟨S_, .f32⟩
  | 58 => ⟨S8, .f32⟩
  | 59 => ⟨S_, .f32⟩
  | 60 => ⟨S8, .f32⟩
  | 61 => ⟨S8, .f32⟩
  | 62 => ⟨S8x1024x1024, .f32⟩
  | 63 => ⟨S_, .f32⟩
  | 64 => ⟨S_, .f32⟩
  | 65 => ⟨S_, .f32⟩
  | 66 => ⟨S_, .f32⟩
  | 67 => ⟨S8, .f32⟩
  | 68 => ⟨S8, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_cst_7 : Ref sig .tc := ⟨.hbm, 41, rfl⟩
abbrev main_v23 : Ref sig .tc := ⟨.hbm, 42, rfl⟩
abbrev main_cst_8 : Ref sig .tc := ⟨.hbm, 43, rfl⟩
abbrev main_cst_9 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_cst : Ref sig .tc := ⟨.hbm, 48, rfl⟩
abbrev main_call2_v3 : Ref sig .tc := ⟨.hbm, 49, rfl⟩
abbrev main_call2_v4 : Ref sig .tc := ⟨.hbm, 50, rfl⟩
abbrev main_call2_cst_0 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_v15 : Ref sig .tc := ⟨.hbm, 63, rfl⟩
abbrev main_call2_v16 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c : Ref sig .tc := ⟨.hbm, 75, rfl⟩
abbrev main_v34 : Ref sig .tc := ⟨.hbm, 76, rfl⟩
abbrev main_c_10 : Ref sig .tc := ⟨.hbm, 77, rfl⟩
abbrev main_v35 : Ref sig .tc := ⟨.hbm, 78, rfl⟩
abbrev main_v36 : Ref sig .tc := ⟨.hbm, 79, rfl⟩
abbrev main_c_11 : Ref sig .tc := ⟨.hbm, 80, rfl⟩
abbrev main_c_12 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_v37 : Ref sig .tc := ⟨.hbm, 87, rfl⟩
abbrev main_cst_13 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_14 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v47 : Ref sig .tc := ⟨.hbm, 104, rfl⟩
abbrev main_cst_15 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_cst_16 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_call5_v3 : Ref sig .tc := ⟨.hbm, 120, rfl⟩
abbrev main_v58 : Ref sig .tc := ⟨.hbm, 121, rfl⟩
abbrev main_cst_17 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_cst_18 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_call6_v3 : Ref sig .tc := ⟨.hbm, 137, rfl⟩
abbrev main_v69 : Ref sig .tc := ⟨.hbm, 138, rfl⟩
abbrev main_cst_19 : Ref sig .tc := ⟨.hbm, 139, rfl⟩
abbrev main_v70 : Ref sig .tc := ⟨.hbm, 140, rfl⟩
abbrev main_v71 : Ref sig .tc := ⟨.hbm, 141, rfl⟩
abbrev main_cst_20 : Ref sig .tc := ⟨.hbm, 142, rfl⟩
abbrev main_v72 : Ref sig .tc := ⟨.hbm, 143, rfl⟩
abbrev main_v73 : Ref sig .tc := ⟨.hbm, 144, rfl⟩
abbrev main_cst_21 : Ref sig .tc := ⟨.hbm, 145, rfl⟩
abbrev main_call7_v0 : Ref sig .tc := ⟨.hbm, 146, rfl⟩
abbrev main_call7_v1 : Ref sig .tc := ⟨.hbm, 147, rfl⟩
abbrev main_call7_v2 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_cst_22 : Ref sig .tc := ⟨.hbm, 155, rfl⟩
abbrev main_v80 : Ref sig .tc := ⟨.hbm, 156, rfl⟩
abbrev main_cst_23 : Ref sig .tc := ⟨.hbm, 157, rfl⟩
abbrev main_v81 : Ref sig .tc := ⟨.hbm, 158, rfl⟩
abbrev main_v82 : Ref sig .tc := ⟨.hbm, 159, rfl⟩
abbrev main_cst_24 : Ref sig .tc := ⟨.hbm, 160, rfl⟩
abbrev main_call8_v0 : Ref sig .tc := ⟨.hbm, 161, rfl⟩
abbrev main_call8_v1 : Ref sig .tc := ⟨.hbm, 162, rfl⟩
abbrev main_call8_v2 : Ref sig .tc := ⟨.hbm, 163, rfl⟩
abbrev main_v83 : Ref sig .tc := ⟨.hbm, 164, rfl⟩
abbrev main_cst_25 : Ref sig .tc := ⟨.hbm, 165, rfl⟩
abbrev main_v84 : Ref sig .tc := ⟨.hbm, 166, rfl⟩
abbrev main_cst_26 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_cst_27 : Ref sig .tc := ⟨.hbm, 171, rfl⟩
abbrev main_call9_v0 : Ref sig .tc := ⟨.hbm, 172, rfl⟩
abbrev main_call9_v1 : Ref sig .tc := ⟨.hbm, 173, rfl⟩
abbrev main_v88 : Ref sig .tc := ⟨.hbm, 174, rfl⟩
abbrev main_cst_28 : Ref sig .tc := ⟨.hbm, 175, rfl⟩
abbrev main_v89 : Ref sig .tc := ⟨.hbm, 176, rfl⟩
abbrev main_cst_29 : Ref sig .tc := ⟨.hbm, 177, rfl⟩
abbrev main_v90 : Ref sig .tc := ⟨.hbm, 178, rfl⟩
abbrev main_cst_30 : Ref sig .tc := ⟨.hbm, 179, rfl⟩
abbrev main_v91 : Ref sig .tc := ⟨.hbm, 180, rfl⟩
abbrev main_v92 : Ref sig .tc := ⟨.hbm, 181, rfl⟩
abbrev main_call10_cst : Ref sig .tc := ⟨.hbm, 182, rfl⟩
abbrev main_call10_v0 : Ref sig .tc := ⟨.hbm, 183, rfl⟩
abbrev main_v93 : Ref sig .tc := ⟨.hbm, 184, rfl⟩
abbrev main_cst_31 : Ref sig .tc := ⟨.hbm, 185, rfl⟩
abbrev main_v94 : Ref sig .tc := ⟨.hbm, 186, rfl⟩
abbrev main_cst_32 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_cst_33 : Ref sig .tc := ⟨.hbm, 191, rfl⟩
abbrev main_v98 : Ref sig .tc := ⟨.hbm, 192, rfl⟩
abbrev main_cst_34 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_cst_35 : Ref sig .tc := ⟨.hbm, 197, rfl⟩
abbrev main_v102 : Ref sig .tc := ⟨.hbm, 198, rfl⟩
abbrev main_cst_36 : Ref sig .tc := ⟨.hbm, 199, rfl⟩
abbrev main_v103 : Ref sig .tc := ⟨.hbm, 200, rfl⟩
abbrev main_cst_37 : Ref sig .tc := ⟨.hbm, 201, rfl⟩
abbrev main_v104 : Ref sig .tc := ⟨.hbm, 202, rfl⟩
abbrev main_v105 : Ref sig .tc := ⟨.hbm, 203, rfl⟩
abbrev main_cst_38 : Ref sig .tc := ⟨.hbm, 204, rfl⟩
abbrev main_v106 : Ref sig .tc := ⟨.hbm, 205, rfl⟩
abbrev main_v107 : Ref sig .tc := ⟨.hbm, 206, rfl⟩

abbrev nD : Nat := 1
abbrev τ : Topo := Topo.v7x

variable {F : FTy → Type} [FloatOps F]
-- ==== Proof.Consts.lean ====
/- The programs' float literals and named bin boundaries at `Ideal`, and the `preserves` claim. -/
module

public import proofs.«01_k».proof.Defs
public import Idealize.ShloMosaic.PureOps.Ideal

@[expose] public section

noncomputable section

namespace Cert.Proof.Consts

open Idealize.ShloMosaic

/-- Each named bin boundary rounds to the literal the kernel writes in its place. -/
theorem preserves : Cert.preserves_Kernel_KernelIdeal :=
  ⟨IdealRules.named_const.statement Cert.KernelIdeal.κ "bound1" .bf16 0x3DCD#16 _ rfl,
   IdealRules.named_const.statement Cert.KernelIdeal.κ "bound2" .bf16 0x3E4D#16 _ rfl,
   IdealRules.named_const.statement Cert.KernelIdeal.κ "bound3" .bf16 0x3E9A#16 _ rfl,
   IdealRules.named_const.statement Cert.KernelIdeal.κ "bound4" .bf16 0x3ECD#16 _ rfl,
   IdealRules.named_const.statement Cert.KernelIdeal.κ "bound6" .bf16 0x3F1A#16 _ rfl,
   IdealRules.named_const.statement Cert.KernelIdeal.κ "bound7" .bf16 0x3F33#16 _ rfl,
   IdealRules.named_const.statement Cert.KernelIdeal.κ "bound8" .bf16 0x3F4D#16 _ rfl,
   IdealRules.named_const.statement Cert.KernelIdeal.κ "bound9" .bf16 0x3F66#16 _ rfl⟩

end Cert.Proof.Consts

end
-- ==== Proof.Chunk.lean ====
/- The kernel body's accumulation, as functions: the 23 running quantities of a 16 x 512 chunk, their sums over the four
   lane groups, and the sum over the 32 chunks of a block. -/
module

public import proofs.«01_k».proof.Proof.Gen.KernelIdeal.Skeleton
public import Idealize.ShloMosaic.Lib.Pipeline.FrameBody

@[expose] public section

noncomputable section

namespace Cert.Proof.Chunk

open Cert.KernelIdeal Cert.KernelIdeal.Gen Idealize.ShloMosaic Idealize.SL.Sem

variable {F : FTy → Type} [FloatOps F] [Named F]

/-- A chunk lies inside its block. -/
theorem chunk_inb (k : ℕ) (a : Fin S1x256x1024.rank) :
    (![0, 16 * (k / 2 % 16), 512 * (k % 2)] : Fin 3 → ℕ) a + S1x16x512.size a ≤ S1x256x1024.size a := by
  have h1 := Nat.mod_lt (k / 2) (show 0 < 16 by decide)
  have h2 := Nat.mod_lt k (show 0 < 2 by decide)
  match a with
  | ⟨0, _⟩ => show 0 + 1 ≤ 1; omega
  | ⟨1, _⟩ => show 16 * (k / 2 % 16) + 16 ≤ 256; omega
  | ⟨2, _⟩ => show 512 * (k % 2) + 512 ≤ 1024; omega

/-- The rectangle of chunk `k`: sixteen rows from row `16 (k / 2)`, the left or the right half of the columns. -/
abbrev chunkRect (k : ℕ) : Rect S1x256x1024 :=
  Rect.unit (s := S1x256x1024) ![0, 16 * (k / 2 % 16), 512 * (k % 2)] S1x16x512.size (chunk_inb k)

/-- Chunk `k` of a block. -/
def chunk (x : Vec F S1x256x1024 .f32) (k : ℕ) : FVec F S16x512 .f32 :=
  shapeCast S16x512 (View.ld (Val := Elt F) (e' := .f32) x (chunkRect k)) shapeCasts_S1x16x512_S16x512

/-- `1 + exp (-x)`. -/
def onePlus (x : FVec F S16x512 .f32) : FVec F S16x512 .f32 :=
  addf (broadcast S16x512 (Scalar.ofBits .f32 0x3F800000#32)) (exp (subf (broadcast S16x512 (Scalar.ofBits .f32 0x00000000#32)) x))

/-- The probability. -/
def prob (x : FVec F S16x512 .f32) : FVec F S16x512 .f32 :=
  divf (broadcast S16x512 (Scalar.ofBits .f32 0x3F800000#32)) (onePlus x)

/-- The probability, rounded as the bin sums take it. -/
def probB (x : FVec F S16x512 .f32) : FVec F S16x512 .bf16 := truncf .bf16 (prob x) bitsLt_bf16_f32

/-- Probability minus label, as the bin sums take them. -/
def devB (x y : FVec F S16x512 .f32) : FVec F S16x512 .bf16 := subf (probB x) (truncf .bf16 y bitsLt_bf16_f32)

/-- The boundary `j / 10` as the kernel writes it. -/
def boundary : ℕ → F .bf16
  | 1 => Named.named κ "bound1" 0x3DCD#16
  | 2 => Named.named κ "bound2" 0x3E4D#16
  | 3 => Named.named κ "bound3" 0x3E9A#16
  | 4 => Named.named κ "bound4" 0x3ECD#16
  | 5 => Scalar.ofBits .bf16 0x3F00#16
  | 6 => Named.named κ "bound6" 0x3F1A#16
  | 7 => Named.named κ "bound7" 0x3F33#16
  | 8 => Named.named κ "bound8" 0x3F4D#16
  | 9 => Named.named κ "bound9" 0x3F66#16
  | _ => Scalar.ofBits .bf16 0x3F80#16

/-- One where the probability reaches boundary `j`, else zero. -/
def reached (j : ℕ) (x : FVec F S16x512 .f32) : FVec F S16x512 .bf16 :=
  select (cmpf .oge (probB x) (broadcast S16x512 (boundary j)))
    (broadcast S16x512 (Scalar.ofBits .bf16 0x3F80#16)) (broadcast S16x512 (Scalar.ofBits .bf16 0x0000#16))

/-- The weighted cross entropy. -/
def entropy (x y u : FVec F S16x512 .f32) : FVec F S16x512 .f32 :=
  mulf (subf (addf (log (onePlus x)) x) (mulf x y))
    (divf (broadcast S16x512 (Scalar.ofBits .f32 0x3F800000#32)) (addf u (broadcast S16x512 (Scalar.ofBits .f32 0x358637BD#32))))

/-- The four groups of 128 lanes, added up. -/
def lanes {φ : FTy} (z : FVec F S16x512 φ) : FVec F S16x128 φ :=
  addf (addf (addf (extractStridedSlice S16x128 ![0, 0] z slices_S16x512_o0_0_S16x128)
    (extractStridedSlice S16x128 ![0, 128] z slices_S16x512_o0_128_S16x128))
    (extractStridedSlice S16x128 ![0, 256] z slices_S16x512_o0_256_S16x128))
    (extractStridedSlice S16x128 ![0, 384] z slices_S16x512_o0_384_S16x128)

/-- The running sum over the first `n` chunks of a quantity's lane sums. -/
def runSum {φ : FTy} (z : ℕ → FVec F S16x512 φ) (zero : FVec F S16x128 φ) : ℕ → FVec F S16x128 φ
  | 0 => zero
  | n + 1 => addf (runSum z zero n) (lanes (z n))

/-- Row `r` of the first 21 of the scratch: ten counts of probabilities reaching a boundary, the deviation, and ten
    deviations restricted to probabilities reaching a boundary. -/
def rowB (r : ℕ) (x y : FVec F S16x512 .f32) : FVec F S16x512 .bf16 :=
  if r < 10 then reached (r + 1) x else if r = 10 then devB x y else mulf (reached (r - 10) x) (devB x y)

/-- What the 32 chunks of a block add to row `r` of the scratch. -/
def blockSum (x0 x1 x2 x3 x4 : Vec F S1x256x1024 .f32) (r : ℕ) : FVec F S16x128 .f32 :=
  if r < 21 then
    extf .f32 (runSum (fun k => rowB r (chunk x0 k) (chunk x1 k)) (broadcast S16x128 (Scalar.ofBits .bf16 0x0000#16)) 32) bitsLt_bf16_f32
  else if r = 21 then
    runSum (fun k => entropy (chunk x0 k) (chunk x1 k) (chunk x2 k)) (broadcast S16x128 (Scalar.ofBits .f32 0x00000000#32)) 32
  else runSum (fun k => addf (chunk x3 k) (chunk x4 k)) (broadcast S16x128 (Scalar.ofBits .f32 0x00000000#32)) 32

/-- A row lies in the scratch. -/
theorem row_inb (r : ℕ) (hr : r < 23) (a : Fin S23x16x128.rank) :
    (![r, 0, 0] : Fin 3 → ℕ) a + S1x16x128.size a ≤ S23x16x128.size a := by
  match a with
  | ⟨0, _⟩ => show r + 1 ≤ 23; omega
  | ⟨1, _⟩ => show 0 + 16 ≤ 16; omega
  | ⟨2, _⟩ => show 0 + 128 ≤ 128; omega

/-- Row `r` of the scratch. -/
abbrev rowRect (r : ℕ) (hr : r < 23) : Rect S23x16x128 :=
  Rect.unit (s := S23x16x128) ![r, 0, 0] S1x16x128.size (row_inb r hr)

/-- What the body stores into row `r` of the scratch. -/
def rowOut (x0 x1 x2 x3 x4 : Vec F S1x256x1024 .f32) (old : Vec F S1x16x128 .f32) (r : ℕ) : FVec F S1x16x128 .f32 :=
  shapeCast S1x16x128 (addf (shapeCast S16x128 old shapeCasts_S1x16x128_S16x128) (blockSum x0 x1 x2 x3 x4 r)) shapeCasts_S16x128_S1x16x128

/-- The sum of a row of the scratch. -/
def rowSum (w : Vec F S1x16x128 .f32) : F .f32 :=
  extractAt ![0, 0, 0] (shapeCast S1x1x1 (multiReduction .add [1, 2] S1
    (shapeCast S1x16x128 (shapeCast S16x128 w shapeCasts_S1x16x128_S16x128) shapeCasts_S16x128_S1x16x128)
    0x00000000#32 reduces_S1x16x128_S1 (.inl rfl) rfl) shapeCasts_S1_S1x1x1) inpos_S1x1x1_p0_0_0

/-- The count of pixels whose probability reaches boundary `j`, from the row sums `s`. -/
def reachSum (s : ℕ → F .f32) : ℕ → F .f32
  | 0 => Scalar.ofBits .f32 0x49800000#32
  | j + 1 => s j

/-- The count of pixels in bin `j`. -/
def binCount (s : ℕ → F .f32) (j : ℕ) : F .f32 := Scalar.subf (reachSum s j) (reachSum s (j + 1))

/-- Whether bin `j` has a pixel. -/
def binValid (s : ℕ → F .f32) (j : ℕ) : BitVec 1 := Scalar.cmpf .ogt (binCount s j) (Scalar.ofBits .f32 0x00000000#32)

/-- The calibration error of bin `j`. -/
def binErr (s : ℕ → F .f32) (j : ℕ) : F .f32 :=
  Scalar.divf (Scalar.absf (Scalar.subf (s (10 + j)) (s (10 + (j + 1)))))
    (Scalar.select (binValid s j) (binCount s j) (Scalar.ofBits .f32 0x3F800000#32))

/-- The running sum of the calibration errors of the first `n` bins. -/
def errSum (s : ℕ → F .f32) : ℕ → F .f32
  | 0 => Scalar.ofBits .f32 0x00000000#32
  | j + 1 => Scalar.addf (errSum s j) (Scalar.select (binValid s j) (binErr s j) (Scalar.ofBits .f32 0x00000000#32))

/-- The running count of the bins among the first `n` that have a pixel. -/
def validSum (s : ℕ → F .f32) : ℕ → F .f32
  | 0 => Scalar.ofBits .f32 0x00000000#32
  | j + 1 => Scalar.addf (validSum s j)
      (Scalar.select (binValid s j) (Scalar.ofBits .f32 0x3F800000#32) (Scalar.ofBits .f32 0x00000000#32))

/-- The calibration loss of an image. -/
def calLoss (s : ℕ → F .f32) : F .f32 :=
  Scalar.select (Scalar.cmpf .ogt (validSum s 10) (Scalar.ofBits .f32 0x00000000#32))
    (Scalar.divf (errSum s 10) (Scalar.maximumf (validSum s 10) (Scalar.ofBits .f32 0x3F800000#32)))
    (Scalar.ofBits .f32 0x00000000#32)

/-- The sum of the excesses of the distances of an image over 2. -/
def excess (d : Vec F S1x1x4096 .f32) : F .f32 :=
  extractAt ![0, 0, 0] (shapeCast S1x1x1 (multiReduction .add [1, 2] S1
    (shapeCast S1x1x4096 (maximumf (subf (shapeCast S1x4096 d shapeCasts_S1x1x4096_S1x4096)
      (broadcast S1x4096 (Scalar.ofBits .f32 0x40000000#32))) (broadcast S1x4096 (Scalar.ofBits .f32 0x00000000#32)))
      shapeCasts_S1x4096_S1x1x4096) 0x00000000#32 reduces_S1x1x4096_S1 (.inl rfl) rfl) shapeCasts_S1_S1x1x1) inpos_S1x1x1_p0_0_0

/-- The lane numbers of the output row. -/
def laneIs (n : BitVec 32) : IVec S1x128 1 := cmpi .eq (iota .tc S1x128 32 [1] iota_S1x128_d1_w32) (broadcast S1x128 n)

/-- The output row of an image: lane 0 the sum of row 21, lane 1 the calibration loss, lane 2 the sum of row 22, lane 3
    the sum of the excesses. -/
def outRow (s : ℕ → F .f32) (d : Vec F S1x1x4096 .f32) : FVec F S1x1x128 .f32 :=
  shapeCast S1x1x128 (select (laneIs 3#32) (broadcast S1x128 (excess d))
    (select (laneIs 2#32) (broadcast S1x128 (s 22))
      (select (laneIs 1#32) (broadcast S1x128 (calLoss s))
        (select (laneIs 0#32) (broadcast S1x128 (s 21)) (broadcast S1x128 (Scalar.ofBits .f32 0x00000000#32))))))
    shapeCasts_S1x128_S1x1x128

end Cert.Proof.Chunk

end
-- ==== Proof.Rows.lean ====
module

public import proofs.«01_k».proof.Proof.Chunk
public import Idealize.ShloMosaic.Lib.Pipeline.Value
public import Idealize.ShloMosaic.Lib.ValueLayout

@[expose] public section

noncomputable section

/-! What a scratch holds after rows were stored into it one after another. -/

namespace Cert.Proof.Rows

open Cert.KernelIdeal Cert.KernelIdeal.Gen Idealize.ShloMosaic Idealize.SL.Sem Cert.Proof.Chunk ValueIdx

variable {F : FTy → Type} [FloatOps F] [Named F]

/-- The pieces of the first `n` rows, the last on top. -/
def rowPieces (f : (r : ℕ) → r < 23 → FVec F S1x16x128 .f32) : (n : ℕ) → n ≤ 23 → List (View.Piece (Elt F) S23x16x128 .f32)
  | 0, _ => []
  | n + 1, h => ⟨rowRect n (by omega), f n (by omega)⟩ :: rowPieces f n (by omega)

/-- The pieces of the first `n` rows over a scratch just cleared, the last on top: each row's old contents are read through
    the pieces below it. -/
def clearedPieces {sig : RefSig} (v : View sig .tc .vmem S23x16x128 .f32) (f : Vec F S1x16x128 .f32 → ℕ → FVec F S1x16x128 .f32) :
    (n : ℕ) → n ≤ 23 → List (View.Piece (Elt F) S23x16x128 .f32)
  | 0, _ => [⟨Rect.unit (s := S23x16x128) ![0, 0, 0] S23x16x128.size inb_S23x16x128_S23x16x128_0_0_0, k0_pay45⟩]
  | n + 1, h => ⟨rowRect n (by omega), f (v.readCov (clearedPieces v f n (by omega)) (rowRect n (by omega)).toLoadRect) n⟩ ::
      clearedPieces v f n (by omega)

/-- Element `(r, a, l)` of the scratch is element `(0, a, l)` of row `r`. -/
theorem row_emb (r : Fin 23) (a : Fin 16) (l : Fin 128) :
    (rowRect r.val r.isLt).emb (ix3 (0 : Fin 1) a l) = ix3 r a l := by
  funext d
  apply Fin.ext
  match d with
  | ⟨0, _⟩ => show r.val + 1 * 0 = r.val; omega
  | ⟨1, _⟩ => show 0 + 1 * a.val = a.val; omega
  | ⟨2, _⟩ => show 0 + 1 * l.val = l.val; omega

/-- An element of another row is outside row `n`. -/
theorem not_mem_row (n : ℕ) (hn : n < 23) (r : Fin 23) (a : Fin 16) (l : Fin 128) (h : r.val ≠ n) :
    ix3 r a l ∉ (rowRect n hn).set := by
  intro hm
  have h0 := Rect.mem_set_unit.mp hm 0
  have h1 : n ≤ r.val := h0.1
  have h2 : r.val < n + 1 := h0.2
  omega

/-- Rows stored one after another are each found again. -/
theorem canon_rowPieces (f : (r : ℕ) → r < 23 → FVec F S1x16x128 .f32) (r : Fin 23) (a : Fin 16) (l : Fin 128) :
    ∀ (n : ℕ) (hn : n ≤ 23), r.val < n →
      View.canon (rowPieces f n hn) (ix3 r a l) = f r.val r.isLt (ix3 (0 : Fin 1) a l)
  | 0, _, h => absurd h (Nat.not_lt_zero _)
  | n + 1, hn, h => by
    rw [rowPieces]
    by_cases e : r.val = n
    · subst e
      rw [← row_emb r a l, View.canon_cons_emb]
    · refine (View.canon_cons_of_not_mem _ _ ?_).trans (canon_rowPieces f r a l n (by omega) (by omega))
      exact not_mem_row n (by omega) r a l e

/-- A scratch cleared and then stored into holds the stored rows, each computed from zeros, and zeros elsewhere. -/
theorem canon_clearedPieces {sig : RefSig} (v : View sig .tc .vmem S23x16x128 .f32)
    (f : Vec F S1x16x128 .f32 → ℕ → FVec F S1x16x128 .f32) :
    ∀ (n : ℕ) (hn : n ≤ 23) (r : Fin 23) (a : Fin 16) (l : Fin 128),
      View.canon (clearedPieces v f n hn) (ix3 r a l) =
        if r.val < n then f (fun _ => Scalar.ofBits .f32 0x00000000#32) r.val (ix3 (0 : Fin 1) a l)
        else Scalar.ofBits .f32 0x00000000#32
  | 0, _, r, a, l => by
    rw [if_neg (Nat.not_lt_zero _), clearedPieces,
      View.canon_unit_zero (by funext d; match d with | ⟨0, _⟩ => rfl | ⟨1, _⟩ => rfl | ⟨2, _⟩ => rfl)]
    rfl
  | n + 1, hn, r, a, l => by
    rw [clearedPieces]
    by_cases e : r.val = n
    · subst e
      rw [if_pos (Nat.lt_succ_self _), ← row_emb r a l, View.canon_cons_emb]
      congr 1
      rw [View.readCov_eq_canon']
      congr 1
      have hz : ∀ j : S1x16x128.Idx, View.canon (clearedPieces v f r.val (by omega)) ((rowRect r.val r.isLt).emb j) =
          Scalar.ofBits .f32 0x00000000#32 := by
        intro j
        obtain ⟨b, k, rfl⟩ : ∃ (b : Fin 16) (k : Fin 128), j = ix3 (0 : Fin 1) b k :=
          ⟨j 1, j 2, by rw [eq_ix3 j]; congr 1; exact Subsingleton.elim (α := Fin 1) _ _⟩
        have key := canon_clearedPieces v f r.val (by omega) r b k
        rw [if_neg (lt_irrefl _)] at key
        rw [row_emb, key]
      exact funext hz
    · refine (View.canon_cons_of_not_mem _ _ ?_).trans ((canon_clearedPieces v f n (by omega) r a l).trans ?_)
      · exact not_mem_row n (by omega) r a l e
      by_cases h : r.val < n
      · rw [if_pos h, if_pos (by omega)]
      · rw [if_neg h, if_neg (by omega)]

/-- Row `r` of the scratch, read. -/
theorem ld_row (x : Vec F S23x16x128 .f32) (r : Fin 23) (a : Fin 16) (l : Fin 128) :
    View.ld (Val := Elt F) (e' := .f32) x (rowRect r.val r.isLt) (ix3 (0 : Fin 1) a l) = x (ix3 r a l) :=
  congrArg x (row_emb r a l)

/-- What the body stores into a row: the old contents plus the block's sum. -/
theorem rowOut_apply (x0 x1 x2 x3 x4 : Vec F S1x256x1024 .f32) (old : Vec F S1x16x128 .f32) (r : ℕ) (a : Fin 16) (l : Fin 128) :
    rowOut x0 x1 x2 x3 x4 old r (ix3 (0 : Fin 1) a l) =
      FloatOps.addf (old (ix3 (0 : Fin 1) a l)) (blockSum x0 x1 x2 x3 x4 r (ix2 a l)) := by
  unfold rowOut
  rw [shapeCast_ab_1ab_apply]
  exact congrArg (fun z => FloatOps.addf z (blockSum x0 x1 x2 x3 x4 r (ix2 a l))) (shapeCast_1ab_ab_apply old shapeCasts_S1x16x128_S16x128 a l)

end Cert.Proof.Rows

end
-- ==== Proof.Scratch.lean ====
module

public import proofs.«01_k».proof.Proof.Gen.KernelIdeal.Frame
public import proofs.«01_k».proof.Proof.Rows

@[expose] public section

set_option maxRecDepth 65536

noncomputable section

/-! What one grid point leaves in the scratch and in its output block, at each of the three kinds of point. -/

namespace Cert.Proof.Scratch

open Cert.KernelIdeal Cert.KernelIdeal.Gen Idealize.ShloMosaic Idealize.SL.Sem Idealize.ShloMosaic.Tactic
open Cert.Proof.Chunk Cert.Proof.Rows ValueIdx

variable {F : FTy → Type} [FloatOps F] [Named F]

set_option maxHeartbeats 4000000 in
/-- At an image's first point the body clears the scratch and then stores its 23 rows. -/
theorem piecesA (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32) :
    (kernelRun0_A c i arg2 harg2 arg3 harg3 arg4 harg4 arg5 harg5 arg6 harg6 arg7 harg7 arg8 harg8 arg9 harg9 hc0 hc1 x0 x1 x2 x3 x4 x5).2.1 = clearedPieces arg9.view (fun old r => rowOut x0 x1 x2 x3 x4 old r) 23 (le_refl 23) := by
  unfold kernelRun0_A; dsimp only; sl_unfold_words
  simp only [View.readAt_eq_ld, harg2.read_unread, harg3.read_unread, harg4.read_unread, harg5.read_unread, harg6.read_unread]
  sl_kernel_rfl

set_option maxHeartbeats 4000000 in
/-- At an image's middle points the body stores the 23 rows of the scratch. -/
theorem piecesB (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32) (xs0 : Vec F S23x16x128 .f32) :
    (kernelRun0_B c i arg2 harg2 arg3 harg3 arg4 harg4 arg5 harg5 arg6 harg6 arg7 harg7 arg8 harg8 arg9 harg9 hc0 hc1 x0 x1 x2 x3 x4 x5 xs0).2.1 = rowPieces (fun r h => rowOut x0 x1 x2 x3 x4 (View.ld (Val := Elt F) (e' := .f32) xs0 (rowRect r h)) r) 23 (le_refl 23) := by
  unfold kernelRun0_B
  dsimp only
  sl_unfold_words
  simp only [View.readAt_eq_ld, harg2.read_unread, harg3.read_unread, harg4.read_unread, harg5.read_unread, harg6.read_unread, harg9.read_unread]
  sl_kernel_rfl

set_option maxHeartbeats 4000000 in
/-- At an image's last point the body stores the 23 rows of the scratch. -/
theorem piecesC (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32) (xs0 : Vec F S23x16x128 .f32) :
    (kernelRun0_C c i arg2 harg2 arg3 harg3 arg4 harg4 arg5 harg5 arg6 harg6 arg7 harg7 arg8 harg8 arg9 harg9 hc0 hc1 x0 x1 x2 x3 x4 x5 xs0).2.1 = rowPieces (fun r h => rowOut x0 x1 x2 x3 x4 (View.ld (Val := Elt F) (e' := .f32) xs0 (rowRect r h)) r) 23 (le_refl 23) := by
  unfold kernelRun0_C
  dsimp only
  sl_unfold_words
  simp only [View.readAt_eq_ld, harg2.read_unread, harg3.read_unread, harg4.read_unread, harg5.read_unread, harg6.read_unread, harg9.read_unread]
  sl_kernel_rfl

set_option maxHeartbeats 4000000 in
/-- At an image's last point the body stores the image's output row, computed from the rows of the scratch. -/
theorem outPieceC (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32) (xs0 : Vec F S23x16x128 .f32) :
    (kernelRun0_C c i arg2 harg2 arg3 harg3 arg4 harg4 arg5 harg5 arg6 harg6 arg7 harg7 arg8 harg8 arg9 harg9 hc0 hc1 x0 x1 x2 x3 x4 x5 xs0).1 = [⟨Rect.unit (s := S1x1x128) ![0, 0, 0] S1x1x128.size inb_S1x1x128_S1x1x128_0_0_0, outRow (fun r => if h : r < 23 then rowSum (arg9.view.readCov (rowPieces (fun r h => rowOut x0 x1 x2 x3 x4 (View.ld (Val := Elt F) (e' := .f32) xs0 (rowRect r h)) r) 23 (le_refl 23)) (rowRect r h).toLoadRect) else Scalar.ofBits .f32 0x00000000#32) (View.ld (Val := Elt F) (e' := .f32) x5 (Rect.unit (s := S1x1x4096) ![0, 0, 0] S1x1x4096.size inb_S1x1x4096_S1x1x4096_0_0_0))⟩] := by
  unfold kernelRun0_C
  dsimp only
  sl_unfold_words
  simp only [View.readAt_eq_ld, harg2.read_unread, harg3.read_unread, harg4.read_unread, harg5.read_unread, harg6.read_unread, harg7.read_unread, harg9.read_unread]
  sl_kernel_rfl

/-- After an image's first point a row of the scratch holds the block's sum. -/
theorem soutA_apply (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : cond0_0 i) (hc1 : ¬cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32)
    (r : Fin 23) (a : Fin 16) (l : Fin 128) :
    sout0_A_0 c i arg2 harg2 arg3 harg3 arg4 harg4 arg5 harg5 arg6 harg6 arg7 harg7 arg8 harg8 arg9 harg9 hc0 hc1 x0 x1 x2 x3 x4 x5 (ix3 r a l) = FloatOps.addf (Scalar.ofBits .f32 0x00000000#32) (blockSum x0 x1 x2 x3 x4 r.val (ix2 a l)) := by
  unfold sout0_A_0
  rw [View.read_writes_junk_apply_eq_canon, piecesA]
  rw [canon_clearedPieces, if_pos r.isLt, rowOut_apply]

/-- A middle point adds the block's sum to a row of the scratch. -/
theorem soutB_apply (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : ¬cond0_0 i) (hc1 : ¬cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32) (xs0 : Vec F S23x16x128 .f32)
    (r : Fin 23) (a : Fin 16) (l : Fin 128) :
    sout0_B_0 c i arg2 harg2 arg3 harg3 arg4 harg4 arg5 harg5 arg6 harg6 arg7 harg7 arg8 harg8 arg9 harg9 hc0 hc1 x0 x1 x2 x3 x4 x5 xs0 (ix3 r a l) = FloatOps.addf (xs0 (ix3 r a l)) (blockSum x0 x1 x2 x3 x4 r.val (ix2 a l)) := by
  unfold sout0_B_0
  rw [View.read_writes_junk_apply_eq_canon, piecesB]
  rw [canon_rowPieces _ r a l 23 (le_refl 23) r.isLt, rowOut_apply, ld_row]

/-- The last point adds the block's sum to a row of the scratch. -/
theorem soutC_apply (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32) (xs0 : Vec F S23x16x128 .f32)
    (r : Fin 23) (a : Fin 16) (l : Fin 128) :
    sout0_C_0 c i arg2 harg2 arg3 harg3 arg4 harg4 arg5 harg5 arg6 harg6 arg7 harg7 arg8 harg8 arg9 harg9 hc0 hc1 x0 x1 x2 x3 x4 x5 xs0 (ix3 r a l) = FloatOps.addf (xs0 (ix3 r a l)) (blockSum x0 x1 x2 x3 x4 r.val (ix2 a l)) := by
  unfold sout0_C_0
  rw [View.read_writes_junk_apply_eq_canon, piecesC]
  rw [canon_rowPieces _ r a l 23 (le_refl 23) r.isLt, rowOut_apply, ld_row]

/-- The output row of an image's last point. -/
theorem outC_eq (c : Dev nD) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S1x1x4096 .f32) (harg7 : arg7.IsWhole) (arg8 : Memref sig .tc .vmem S1x1x128 .f32) (harg8 : arg8.IsWhole) (arg9 : Memref sig .tc .vmem S23x16x128 .f32) (harg9 : arg9.IsWhole) (hc0 : ¬cond0_0 i) (hc1 : cond0_1 i)
    (x0 : Vec F S1x256x1024 .f32) (x1 : Vec F S1x256x1024 .f32) (x2 : Vec F S1x256x1024 .f32) (x3 : Vec F S1x256x1024 .f32) (x4 : Vec F S1x256x1024 .f32) (x5 : Vec F S1x1x4096 .f32) (xs0 : Vec F S23x16x128 .f32)  :
    out0_C_6 c i arg2 harg2 arg3 harg3 arg4 harg4 arg5 harg5 arg6 harg6 arg7 harg7 arg8 harg8 arg9 harg9 hc0 hc1 x0 x1 x2 x3 x4 x5 xs0 =
      outRow (fun r => if h : r < 23 then rowSum (rowOut x0 x1 x2 x3 x4 (View.ld (Val := Elt F) (e' := .f32) xs0 (rowRect r h)) r) else Scalar.ofBits .f32 0x00000000#32) x5 := by
  funext y
  unfold out0_C_6
  rw [View.read_writes_junk_apply_eq_canon, outPieceC,
    View.canon_unit_zero (by funext d; match d with | ⟨0, _⟩ => rfl | ⟨1, _⟩ => rfl | ⟨2, _⟩ => rfl)]
  rw [View.ld_unit_zero (by funext d; match d with | ⟨0, _⟩ => rfl | ⟨1, _⟩ => rfl | ⟨2, _⟩ => rfl)]
  refine congrFun (congrArg (fun s => outRow s x5) (funext fun r => ?_)) y
  by_cases h : r < 23
  · rw [dif_pos h, dif_pos h, View.readCov_eq_canon']
    refine congrArg rowSum (funext fun j => ?_)
    obtain ⟨b, k, rfl⟩ : ∃ (b : Fin 16) (k : Fin 128), j = ix3 (0 : Fin 1) b k :=
      ⟨j 1, j 2, by rw [eq_ix3 j]; congr 1; exact Subsingleton.elim (α := Fin 1) _ _⟩
    exact (congrArg _ (row_emb ⟨r, h⟩ b k)).trans (canon_rowPieces _ ⟨r, h⟩ b k 23 (le_refl 23) h)
  · rw [dif_neg h, dif_neg h]

end Cert.Proof.Scratch

end
-- ==== Proof.Pixel.lean ====
/- The numbers the two programs form at one pixel, over the extended reals: the probability, the weighted cross
   entropy in both forms, and the bin a probability falls in. -/
module

public import Idealize.ShloMosaic.PureOps.Ideal
public import Idealize.ShloMosaic.PureOps.Ideal.Laws
public import Idealize.ShloMosaic.Lib.IdealHost

@[expose] public section

noncomputable section

namespace Cert.Proof.Pixel

open Idealize.ShloMosaic

/-- The probability of a logit. -/
def prob (x : EReal) : EReal := Ideal.div 1 (1 + Ideal.exp (-x))

/-- The weight of an uncertainty: one over it plus the small constant of the program. -/
def weight (u : EReal) : EReal := Ideal.div 1 (u + Ideal.ofBits .f32 0x358637BD#32)

/-- The weighted cross entropy of a logit, from the logarithm of `1 + exp (-x)`. -/
def entropyOfLogit (x y u : EReal) : EReal := ((Ideal.log (1 + Ideal.exp (-x)) + x) - x * y) * weight u

/-- The weighted cross entropy of a probability, the logarithms clamped below at `-100`. -/
def entropyOfProb (p y u : EReal) : EReal :=
  (-(y * max ((-100 : ℝ) : EReal) (Ideal.log p) + (1 - y) * max ((-100 : ℝ) : EReal) (Ideal.log1p (-p)))) * weight u

/-- The real probability of a real logit. -/
def probR (x : ℝ) : ℝ := (1 + Real.exp (-x))⁻¹

/-- `1 + exp (-x)` of a real logit. -/
theorem one_add_exp_coe (x : ℝ) : (1 : EReal) + Ideal.exp (-(x : EReal)) = ((1 + Real.exp (-x) : ℝ) : EReal) := by
  rw [← EReal.coe_neg, Ideal.exp_coe, ← EReal.coe_one, ← EReal.coe_add]

/-- The probability of a real logit is the real logistic function. -/
theorem prob_coe (x : ℝ) : prob x = (probR x : EReal) := by
  have h : (1 + Real.exp (-x)) ≠ 0 := by positivity
  rw [prob, one_add_exp_coe, Ideal.div_coe h, one_mul, one_div, probR]

/-- A probability is positive. -/
theorem probR_pos (x : ℝ) : 0 < probR x := by unfold probR; positivity

/-- A probability is less than one. -/
theorem probR_lt_one (x : ℝ) : probR x < 1 := by
  unfold probR
  have := Real.exp_pos (-x)
  exact inv_lt_one_of_one_lt₀ (by linarith)

/-- The complement of a probability. -/
theorem one_sub_probR (x : ℝ) : 1 - probR x = Real.exp (-x) * probR x := by
  unfold probR
  have : (1 + Real.exp (-x)) ≠ 0 := by positivity
  field_simp; ring

/-- The softplus of a number at most 99 is at most 100: there the clamp is idle. -/
theorem log_one_add_exp_le (z : ℝ) (hz : z ≤ 99) : Real.log (1 + Real.exp z) ≤ 100 := by
  rw [Real.log_le_iff_le_exp (by positivity)]
  have h1 : Real.exp z ≤ Real.exp 99 := Real.exp_le_exp.mpr hz
  have h2 : (1 : ℝ) ≤ Real.exp 99 := Real.one_le_exp (by norm_num)
  have h3 : (2 : ℝ) ≤ Real.exp 1 := by have := Real.add_one_le_exp (1 : ℝ); linarith
  have h4 : Real.exp 100 = Real.exp 99 * Real.exp 1 := by rw [← Real.exp_add]; norm_num
  nlinarith

/-- The logarithm of a probability. -/
theorem log_probR (x : ℝ) : Real.log (probR x) = -Real.log (1 + Real.exp (-x)) := Real.log_inv _

/-- The logarithm of the complement of a probability. -/
theorem log_one_sub_probR (x : ℝ) : Real.log (1 - probR x) = -x - Real.log (1 + Real.exp (-x)) := by
  rw [one_sub_probR, Real.log_mul (Real.exp_pos _).ne' (probR_pos x).ne', Real.log_exp, log_probR]; ring

/-- The softplus of a number from that of its negative. -/
theorem softplus_neg (x : ℝ) : x + Real.log (1 + Real.exp (-x)) = Real.log (1 + Real.exp x) := by
  have : 1 + Real.exp x = Real.exp x * (1 + Real.exp (-x)) := by
    rw [mul_add, ← Real.exp_add]; simp [add_comm]
  rw [this, Real.log_mul (Real.exp_pos _).ne' (by positivity), Real.log_exp]

/-- For a real logit in `[-99, 99]` and a real label the two forms of the weighted cross entropy agree. -/
theorem entropy_eq (x y : ℝ) (hx : |x| ≤ 99) (u : EReal) :
    entropyOfProb (prob x) y u = entropyOfLogit x y u := by
  have hlo := (abs_le.mp hx).1
  have hhi := (abs_le.mp hx).2
  have hpos := probR_pos x
  have hlt := probR_lt_one x
  unfold entropyOfProb entropyOfLogit
  congr 1
  have e1 : max ((-100 : ℝ) : EReal) (Ideal.log (probR x : EReal)) = ((-Real.log (1 + Real.exp (-x)) : ℝ) : EReal) := by
    rw [Ideal.log_coe, if_neg (not_le.mpr hpos), log_probR]
    apply max_eq_right
    have := log_one_add_exp_le (-x) (by linarith)
    rw [EReal.coe_le_coe_iff]; linarith
  have e2 : max ((-100 : ℝ) : EReal) (Ideal.log1p (-(probR x : EReal)))
      = ((-x - Real.log (1 + Real.exp (-x)) : ℝ) : EReal) := by
    have : (1 : EReal) + -(probR x : EReal) = ((1 - probR x : ℝ) : EReal) := by
      rw [← EReal.coe_neg, ← EReal.coe_one, ← EReal.coe_add, sub_eq_add_neg]
    rw [Ideal.log1p, this, Ideal.log_coe, if_neg (by linarith), log_one_sub_probR]
    apply max_eq_right
    have := log_one_add_exp_le x hhi
    have := softplus_neg x
    rw [EReal.coe_le_coe_iff]; linarith
  rw [prob_coe, e1, e2, one_add_exp_coe, Ideal.log_coe, if_neg (not_le.mpr (by positivity))]
  rw [← EReal.coe_one, ← EReal.coe_sub, ← EReal.coe_mul, ← EReal.coe_mul, ← EReal.coe_mul, ← EReal.coe_add,
    ← EReal.coe_neg, ← EReal.coe_add, ← EReal.coe_sub, EReal.coe_eq_coe_iff]
  ring

/-! ## The bin of a probability -/

/-- The boundary `k / 10`. -/
def bound (k : ℕ) : EReal := ((k / 10 : ℝ) : EReal)

/-- The tenth a probability lies in. -/
def tenth (p : ℝ) : ℕ := ⌊10 * p⌋₊

/-- The tenth of a probability is one of ten. -/
theorem tenth_lt {p : ℝ} (h0 : 0 < p) (h1 : p < 1) : tenth p < 10 :=
  (Nat.floor_lt (by linarith)).mpr (by norm_num; linarith)

/-- A probability reaches the boundary `k / 10` exactly if its tenth is at least `k`. -/
theorem bound_le_iff {p : ℝ} (h0 : 0 < p) (k : ℕ) : bound k ≤ (p : EReal) ↔ k ≤ tenth p := by
  rw [bound, EReal.coe_le_coe_iff, tenth, Nat.le_floor_iff (by linarith)]
  constructor <;> intro h
  · rw [div_le_iff₀ (by norm_num)] at h; linarith
  · rw [div_le_iff₀ (by norm_num)]; linarith

end Cert.Proof.Pixel

end
-- ==== Proof.Bins.lean ====
/- The calibration loss of one image from its bins: counts and deviations as differences of cumulative sums (the kernel)
   and as sums over the members of a bin (the reference). -/
module

public import proofs.«01_k».proof.Proof.Pixel

@[expose] public section

noncomputable section

namespace Cert.Proof.Bins

open Idealize.ShloMosaic Cert.Proof.Pixel
open scoped BigOperators

/-- A finite sum of reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The bin number the reference forms: how many of the eleven boundaries are at most the probability, minus one,
    clamped to `0 … 10`. -/
def binWord (c : Fin 11 → BitVec 1) : BitVec 32 :=
  IntOp.minsi 10#32 (IntOp.maxsi 0#32 (IntOp.subi ((Finset.univ : Finset (Fin 11)).fold IntOp.addi 0#32 fun k => (c k).setWidth 32) 1#32))

/-- That number, for a probability in the tenth `m`, is `m`. -/
theorem binWord_step (m : Fin 10) : binWord (fun k => BitVec.ofBool (decide (k.val ≤ m.val))) = BitVec.ofNat 32 m.val := by
  revert m; decide +kernel

/-- The reference's bin number of a real logit is the tenth its probability lies in. -/
theorem binWord_eq (x : ℝ) :
    binWord (fun k => Ideal.cmp .ole (bound k.val) (prob x)) = BitVec.ofNat 32 (tenth (probR x)) := by
  have hm := tenth_lt (probR_pos x) (probR_lt_one x)
  rw [← binWord_step ⟨tenth (probR x), hm⟩]
  congr 1; funext k
  simp only [Ideal.cmp, prob_coe]
  congr 1
  exact decide_eq_decide.mpr (bound_le_iff (probR_pos x) k.val)

/-- A bin's word equals the word of `j` exactly if the tenth is `j`. -/
theorem word_eq_iff (x : ℝ) (j : ℕ) (hj : j < 11) :
    BitVec.ofNat 32 (tenth (probR x)) = BitVec.ofNat 32 j ↔ tenth (probR x) = j := by
  have hm := tenth_lt (probR_pos x) (probR_lt_one x)
  constructor
  · intro h
    have := congrArg BitVec.toNat h
    rw [BitVec.toNat_ofNat, BitVec.toNat_ofNat] at this
    omega
  · rintro rfl; rfl

/-- One where a bit is set, else zero. -/
def bit (p : Prop) [Decidable p] : EReal := if p then 1 else 0

/-- A bit as a real number. -/
theorem bit_coe (p : Prop) [Decidable p] : bit p = ((if p then 1 else 0 : ℝ) : EReal) := by
  unfold bit; split <;> simp

/-- A count, or one for an empty bin. -/
def safe (n : EReal) : EReal := if 0 < n then n else 1

/-- The absolute value. -/
def abs (a : EReal) : EReal := max a (-a)

/-- The calibration loss from the ten counts and the ten errors: the mean error of the bins that are not empty. -/
def calib (n e : Fin 10 → EReal) : EReal :=
  if 0 < ∑ j, bit (0 < n j) then
    Ideal.div (∑ j, if 0 < n j then e j else 0) (max (∑ j, bit (0 < n j)) 1)
  else 0

/-- The calibration loss depends only on the counts and the errors. -/
theorem calib_congr {n n' e e' : Fin 10 → EReal} (hn : ∀ j, n j = n' j) (he : ∀ j, e j = e' j) : calib n e = calib n' e' := by
  rw [funext hn, funext he]

section

variable {ι : Type} [Fintype ι] (x y : ι → ℝ)

/-- How many probabilities reach boundary `j`. -/
def reach (j : ℕ) : EReal := ∑ i, bit (bound j ≤ prob (x i))

/-- The deviations of the probabilities that reach boundary `j`. -/
def dev (j : ℕ) : EReal := ∑ i, bit (bound j ≤ prob (x i)) * (prob (x i) - (y i : EReal))

/-- All deviations. -/
def devAll : EReal := ∑ i, (prob (x i) - (y i : EReal))

/-- The members of bin `j`. -/
def count (j : ℕ) : EReal := ∑ i, bit (tenth (probR (x i)) = j)

/-- A quantity summed over the members of bin `j`. -/
def inBin (v : ι → EReal) (j : ℕ) : EReal := ∑ i, if tenth (probR (x i)) = j then v i else 0

/-- A bin's error as the reference forms it. -/
def binErr (j : ℕ) : EReal :=
  abs (Ideal.div (inBin x (fun i => prob (x i)) j) (safe (count x j)) - Ideal.div (inBin x (fun i => (y i : EReal)) j) (safe (count x j)))

/-- The number of members of a bin as a real sum. -/
theorem count_coe (j : ℕ) : count x j = ((∑ i, (if tenth (probR (x i)) = j then 1 else 0 : ℝ) : ℝ) : EReal) := by
  rw [count, coe_sum]; simp only [bit_coe]

/-- A probability reaches boundary `j` exactly if its tenth is at least `j`. -/
theorem bit_bound (z : ℝ) (j : ℕ) : bit (bound j ≤ prob z) = ((if j ≤ tenth (probR z) then 1 else 0 : ℝ) : EReal) := by
  rw [bit_coe, prob_coe]
  simp only [bound_le_iff (probR_pos z)]

/-- A cumulative count as a real sum. -/
theorem reach_coe (j : ℕ) : reach x j = ((∑ i, (if j ≤ tenth (probR (x i)) then 1 else 0 : ℝ) : ℝ) : EReal) := by
  rw [reach, coe_sum]; simp only [bit_bound]

/-- The two cumulative indicators differ by the indicator of the bin. -/
theorem step_sub (t j : ℕ) : ((if j ≤ t then 1 else 0 : ℝ) - (if j + 1 ≤ t then 1 else 0 : ℝ)) = if t = j then 1 else 0 := by
  by_cases h1 : j + 1 ≤ t
  · rw [if_pos h1, if_pos (by omega), if_neg (by omega)]; norm_num
  · by_cases h2 : j ≤ t
    · rw [if_neg h1, if_pos h2, if_pos (by omega)]; norm_num
    · rw [if_neg h1, if_neg h2, if_neg (by omega)]; norm_num

/-- A bin's count is the difference of two cumulative counts. -/
theorem reach_sub (j : ℕ) : reach x j - reach x (j + 1) = count x j := by
  rw [reach_coe, reach_coe, count_coe, ← EReal.coe_sub, ← Finset.sum_sub_distrib]
  simp only [step_sub]

/-- Every probability reaches the boundary 0. -/
theorem reach_zero : reach x 0 = ((Fintype.card ι : ℝ) : EReal) := by
  rw [reach_coe]; simp

/-- A cumulative deviation as a real sum. -/
theorem dev_coe (j : ℕ) :
    dev x y j = ((∑ i, (if j ≤ tenth (probR (x i)) then 1 else 0 : ℝ) * (probR (x i) - y i) : ℝ) : EReal) := by
  rw [dev, coe_sum]
  refine Finset.sum_congr rfl fun i _ => ?_
  rw [bit_bound, prob_coe, ← EReal.coe_sub, ← EReal.coe_mul]

/-- All deviations are those of the probabilities that reach the boundary 0. -/
theorem devAll_eq : devAll x y = dev x y 0 := by
  rw [dev_coe, devAll, coe_sum]
  refine Finset.sum_congr rfl fun i _ => ?_
  rw [prob_coe, ← EReal.coe_sub, if_pos (Nat.zero_le _), one_mul]

/-- The sum over the members of a bin as a real sum. -/
theorem inBin_coe (v : ι → ℝ) (j : ℕ) :
    inBin x (fun i => (v i : EReal)) j = ((∑ i, (if tenth (probR (x i)) = j then 1 else 0 : ℝ) * v i : ℝ) : EReal) := by
  rw [inBin, coe_sum]
  refine Finset.sum_congr rfl fun i _ => ?_
  split <;> simp

/-- The difference of two cumulative deviations is the sum of the probabilities in the bin less that of the labels. -/
theorem dev_sub (j : ℕ) :
    dev x y j - dev x y (j + 1)
      = (((∑ i, (if tenth (probR (x i)) = j then 1 else 0 : ℝ) * probR (x i))
          - ∑ i, (if tenth (probR (x i)) = j then 1 else 0 : ℝ) * y i : ℝ) : EReal) := by
  rw [dev_coe, dev_coe, ← EReal.coe_sub, ← Finset.sum_sub_distrib, ← Finset.sum_sub_distrib]
  congr 1
  refine Finset.sum_congr rfl fun i _ => ?_
  rw [← sub_mul, step_sub, mul_sub]

/-- The divisor of a bin is a positive real. -/
theorem safe_coe (j : ℕ) : ∃ s : ℝ, 0 < s ∧ safe (count x j) = (s : EReal) := by
  rw [count_coe, safe]
  split
  · next h => exact ⟨_, EReal.coe_pos.mp h, rfl⟩
  · exact ⟨1, one_pos, rfl⟩

/-- The absolute value of a real. -/
theorem abs_coe (a : ℝ) : abs (a : EReal) = ((|a| : ℝ) : EReal) := by
  rw [abs, ← EReal.coe_neg, ← EReal.coe_strictMono.monotone.map_max]; rfl

/-- A bin's error is the absolute difference of two cumulative deviations over the count. -/
theorem dev_err (j : ℕ) :
    Ideal.div (abs (dev x y j - dev x y (j + 1))) (safe (reach x j - reach x (j + 1))) = binErr x y j := by
  obtain ⟨s, hs, es⟩ := safe_coe x j
  rw [reach_sub, binErr, es, dev_sub]
  simp only [prob_coe]
  rw [inBin_coe, inBin_coe, abs_coe, Ideal.div_coe hs.ne', Ideal.div_coe hs.ne', Ideal.div_coe hs.ne',
    ← EReal.coe_mul, ← EReal.coe_mul, ← EReal.coe_mul, ← EReal.coe_sub, abs_coe, ← sub_mul, abs_mul,
    abs_of_pos (show 0 < 1 / s by positivity)]

end

end Cert.Proof.Bins

end
-- ==== Proof.Block.lean ====
module

public import proofs.«01_k».proof.Proof.Rows
public import proofs.«01_k».proof.Proof.Bins
public import Idealize.ShloMosaic.Lib.IdealHost
public import Idealize.ShloMosaic.PureOps.Ideal.Laws

@[expose] public section

noncomputable section

/-! What a block adds to the scratch over the extended reals: the sum over the block's pixels of one of 23 quantities. -/

namespace Cert.Proof.Block

open Cert.KernelIdeal Cert.KernelIdeal.Gen Idealize.ShloMosaic Idealize.SL.Sem Cert.Proof.Chunk ValueIdx

/-- The quantity row `r` of the scratch sums, at a pixel with logit `x`, label `y`, total uncertainty `u` and the two other
    uncertainties `p` and `q`. -/
def pix (r : ℕ) (x y u p q : EReal) : EReal :=
  if r < 10 then Bins.bit (Pixel.bound (r + 1) ≤ Pixel.prob x)
  else if r = 10 then Pixel.prob x - y
  else if r < 21 then Bins.bit (Pixel.bound (r - 10) ≤ Pixel.prob x) * (Pixel.prob x - y)
  else if r = 21 then Pixel.entropyOfLogit x y u
  else p + q

/-- Row of the block that row `a` of chunk `k` is. -/
def atRow (k : ℕ) (a : Fin 16) : Fin 256 := ⟨16 * (k / 2 % 16) + a.val, by have := Nat.mod_lt (k / 2) (show 0 < 16 by decide); omega⟩

/-- Column of the block that column `b` of chunk `k` is. -/
def atCol (k : ℕ) (b : Fin 512) : Fin 1024 := ⟨512 * (k % 2) + b.val, by have := Nat.mod_lt k (show 0 < 2 by decide); omega⟩

/-- Lane `l` of lane group `g`. -/
def lane (g : Fin 4) (l : Fin 128) : Fin 512 := ⟨128 * g.val + l.val, by omega⟩

/-- An entry of a chunk is an entry of the block. -/
theorem chunk_apply (x : Vec Ideal S1x256x1024 .f32) (k : ℕ) (a : Fin 16) (b : Fin 512) :
    chunk x k (ix2 a b) = x (ix3 (0 : Fin 1) (atRow k a) (atCol k b)) := by
  unfold chunk
  refine (shapeCast_1ab_ab_apply _ shapeCasts_S1x16x512_S16x512 a b).trans (congrArg x ?_)
  funext d
  apply Fin.ext
  match d with
  | ⟨0, _⟩ => rfl
  | ⟨1, _⟩ => show 16 * (k / 2 % 16) + 1 * a.val = 16 * (k / 2 % 16) + a.val; omega
  | ⟨2, _⟩ => show 512 * (k % 2) + 1 * b.val = 512 * (k % 2) + b.val; omega

/-- An entry of `1 + exp (-x)`. -/
theorem onePlus_apply (x : FVec Ideal S16x512 .f32) (i : S16x512.Idx) : onePlus x i = 1 + Ideal.exp (-(x i)) := by
  show Ideal.ofBits .f32 0x3F800000#32 + Ideal.exp (Ideal.ofBits .f32 0x00000000#32 - x i) = _
  rw [Ideal.ofBits_one_f32, Ideal.ofBits_zero_f32, zero_sub]

/-- An entry of the probabilities. -/
theorem prob_apply (x : FVec Ideal S16x512 .f32) (i : S16x512.Idx) : prob x i = Pixel.prob (x i) := by
  show Ideal.div (Ideal.ofBits .f32 0x3F800000#32) (onePlus x i) = _
  rw [Ideal.ofBits_one_f32, onePlus_apply]; rfl

/-- An entry of the deviations. -/
theorem devB_apply (x y : FVec Ideal S16x512 .f32) (i : S16x512.Idx) : devB x y i = Pixel.prob (x i) - y i := by
  show prob x i - y i = _
  rw [prob_apply]

/-- The literals and names of the boundaries stand for the tenths. -/
theorem boundary_eq (r : ℕ) (h : r < 10) : boundary (F := Ideal) (r + 1) = Pixel.bound (r + 1) := by
  unfold Pixel.bound
  interval_cases r
  · exact (IdealRules.named_const.ideal_named_scalar _ _ _ _ rfl).trans (by norm_num)
  · exact (IdealRules.named_const.ideal_named_scalar _ _ _ _ rfl).trans (by norm_num)
  · exact (IdealRules.named_const.ideal_named_scalar _ _ _ _ rfl).trans (by norm_num)
  · exact (IdealRules.named_const.ideal_named_scalar _ _ _ _ rfl).trans (by norm_num)
  · show Ideal.ofBits .bf16 0x3F00#16 = _
    simp [Ideal.ofBits, Ideal.ieee, -EReal.coe_mul]; norm_num
  · exact (IdealRules.named_const.ideal_named_scalar _ _ _ _ rfl).trans (by norm_num)
  · exact (IdealRules.named_const.ideal_named_scalar _ _ _ _ rfl).trans (by norm_num)
  · exact (IdealRules.named_const.ideal_named_scalar _ _ _ _ rfl).trans (by norm_num)
  · exact (IdealRules.named_const.ideal_named_scalar _ _ _ _ rfl).trans (by norm_num)
  · show Ideal.ofBits .bf16 0x3F80#16 = _
    rw [Ideal.ofBits_one_bf16]; norm_num

/-- An entry of the indicators of a boundary. -/
theorem reached_apply (r : ℕ) (h : r < 10) (x : FVec Ideal S16x512 .f32) (i : S16x512.Idx) :
    reached (r + 1) x i = Bins.bit (Pixel.bound (r + 1) ≤ Pixel.prob (x i)) := by
  show Scalar.select (Ideal.cmp .oge (prob x i) (boundary (F := Ideal) (r + 1))) (Ideal.ofBits .bf16 0x3F80#16) (Ideal.ofBits .bf16 0x0000#16) = _
  rw [Ideal.ofBits_one_bf16, Ideal.ofBits_zero_bf16, boundary_eq r h, prob_apply]
  unfold Scalar.select Bins.bit
  by_cases hc : Pixel.bound (r + 1) ≤ Pixel.prob (x i)
  · rw [if_pos hc, if_pos (by simp [Ideal.cmp, hc])]
  · rw [if_neg hc, if_neg (by simp [Ideal.cmp, hc])]

/-- What a pixel adds to one of the first 21 rows. -/
theorem rowB_apply (r : ℕ) (h : r < 21) (x y : FVec Ideal S16x512 .f32) (i : S16x512.Idx) (u p q : EReal) :
    rowB r x y i = pix r (x i) (y i) u p q := by
  unfold rowB pix
  by_cases h1 : r < 10
  · rw [if_pos h1, if_pos h1, reached_apply r h1]
  · rw [if_neg h1, if_neg h1]
    by_cases h2 : r = 10
    · rw [if_pos h2, if_pos h2, devB_apply]
    · rw [if_neg h2, if_neg h2, if_pos h]
      obtain ⟨s, rfl⟩ : ∃ s, r = s + 11 := ⟨r - 11, by omega⟩
      show reached (s + 11 - 10) x i * devB x y i = _
      rw [show s + 11 - 10 = s + 1 by omega, reached_apply s (by omega), devB_apply]

/-- An entry of the weighted cross entropies. -/
theorem entropy_apply (x y u : FVec Ideal S16x512 .f32) (i : S16x512.Idx) :
    entropy x y u i = Pixel.entropyOfLogit (x i) (y i) (u i) := by
  show (Ideal.log (onePlus x i) + x i - x i * y i) * Ideal.div (Ideal.ofBits .f32 0x3F800000#32) (u i + Ideal.ofBits .f32 0x358637BD#32) = _
  rw [onePlus_apply, Ideal.ofBits_one_f32]; rfl

/-- The four lane groups added up. -/
theorem lanes_apply {φ : FTy} (z : FVec Ideal S16x512 φ) (a : Fin 16) (l : Fin 128) :
    lanes z (ix2 a l) = ∑ g : Fin 4, z (ix2 a (lane g l)) := by
  show extractStridedSlice S16x128 ![0, 0] z slices_S16x512_o0_0_S16x128 (ix2 a l)
    + extractStridedSlice S16x128 ![0, 128] z slices_S16x512_o0_128_S16x128 (ix2 a l)
    + extractStridedSlice S16x128 ![0, 256] z slices_S16x512_o0_256_S16x128 (ix2 a l)
    + extractStridedSlice S16x128 ![0, 384] z slices_S16x512_o0_384_S16x128 (ix2 a l) = _
  rw [Fin.sum_univ_four]
  congr 1; congr 1; congr 1
  · exact slice2_axis1_apply 0 z slices_S16x512_o0_0_S16x128 a l (lane 0 l) rfl
  · exact slice2_axis1_apply 128 z slices_S16x512_o0_128_S16x128 a l (lane 1 l) rfl
  · exact slice2_axis1_apply 256 z slices_S16x512_o0_256_S16x128 a l (lane 2 l) rfl
  · exact slice2_axis1_apply 384 z slices_S16x512_o0_384_S16x128 a l (lane 3 l) rfl

/-- The running sum over the first `n` chunks. -/
theorem runSum_apply {φ : FTy} (z : ℕ → FVec Ideal S16x512 φ) (zero : FVec Ideal S16x128 φ) (a : Fin 16) (l : Fin 128)
    (h0 : (zero (ix2 a l) : EReal) = 0) : ∀ n : ℕ,
    (runSum z zero n (ix2 a l) : EReal) = ∑ k : Fin n, ∑ g : Fin 4, (z k.val (ix2 a (lane g l)) : EReal)
  | 0 => by rw [Fin.sum_univ_zero]; exact h0
  | n + 1 => by
    rw [Fin.sum_univ_castSucc]
    show (runSum z zero n (ix2 a l) : EReal) + lanes (z n) (ix2 a l) = _
    rw [runSum_apply z zero a l h0 n, lanes_apply]
    rfl

/-- What a block adds to element `(a, l)` of row `r`. -/
theorem blockSum_apply (x0 x1 x2 x3 x4 : Vec Ideal S1x256x1024 .f32) (r : ℕ) (a : Fin 16) (l : Fin 128) :
    (blockSum x0 x1 x2 x3 x4 r (ix2 a l) : EReal) = ∑ k : Fin 32, ∑ g : Fin 4,
      pix r (x0 (ix3 (0 : Fin 1) (atRow k.val a) (atCol k.val (lane g l)))) (x1 (ix3 (0 : Fin 1) (atRow k.val a) (atCol k.val (lane g l))))
        (x2 (ix3 (0 : Fin 1) (atRow k.val a) (atCol k.val (lane g l)))) (x3 (ix3 (0 : Fin 1) (atRow k.val a) (atCol k.val (lane g l))))
        (x4 (ix3 (0 : Fin 1) (atRow k.val a) (atCol k.val (lane g l)))) := by
  unfold blockSum
  by_cases h1 : r < 21
  · rw [if_pos h1]
    refine (runSum_apply _ (broadcast S16x128 (Scalar.ofBits .bf16 0x0000#16)) a l Ideal.ofBits_zero_bf16 32).trans ?_
    refine Finset.sum_congr rfl fun k _ => Finset.sum_congr rfl fun g _ => ?_
    rw [← chunk_apply x0, ← chunk_apply x1, ← chunk_apply x2, ← chunk_apply x3, ← chunk_apply x4]
    exact rowB_apply r h1 _ _ _ _ _ _
  · rw [if_neg h1]
    by_cases h2 : r = 21
    · rw [if_pos h2]
      refine (runSum_apply _ (broadcast S16x128 (Scalar.ofBits .f32 0x00000000#32)) a l Ideal.ofBits_zero_f32 32).trans ?_
      refine Finset.sum_congr rfl fun k _ => Finset.sum_congr rfl fun g _ => ?_
      rw [← chunk_apply x0, ← chunk_apply x1, ← chunk_apply x2, ← chunk_apply x3, ← chunk_apply x4, entropy_apply]
      unfold pix
      rw [if_neg (by omega), if_neg (by omega), if_neg h1, if_pos h2]
    · rw [if_neg h2]
      refine (runSum_apply _ (broadcast S16x128 (Scalar.ofBits .f32 0x00000000#32)) a l Ideal.ofBits_zero_f32 32).trans ?_
      refine Finset.sum_congr rfl fun k _ => Finset.sum_congr rfl fun g _ => ?_
      rw [← chunk_apply x0, ← chunk_apply x1, ← chunk_apply x2, ← chunk_apply x3, ← chunk_apply x4]
      unfold pix
      rw [if_neg (by omega), if_neg (by omega), if_neg h1, if_neg h2]
      rfl

/-- A pixel of a block as an element of a chunk's lane group. -/
def pixelEquiv : (Fin 16 × Fin 128) × (Fin 32 × Fin 4) ≃ Fin 256 × Fin 1024 where
  toFun p := (atRow p.2.1.val p.1.1, atCol p.2.1.val (lane p.2.2 p.1.2))
  invFun q := ((⟨q.1.val % 16, by omega⟩, ⟨q.2.val % 128, by omega⟩),
    (⟨2 * (q.1.val / 16) + q.2.val / 512, by omega⟩, ⟨q.2.val % 512 / 128, by omega⟩))
  left_inv p := by
    obtain ⟨⟨a, l⟩, ⟨k, g⟩⟩ := p
    refine Prod.ext (Prod.ext (Fin.ext ?_) (Fin.ext ?_)) (Prod.ext (Fin.ext ?_) (Fin.ext ?_)) <;>
      simp only [atRow, atCol, lane] <;> omega
  right_inv q := by
    obtain ⟨r, c⟩ := q
    refine Prod.ext (Fin.ext ?_) (Fin.ext ?_) <;> simp only [atRow, atCol, lane] <;> omega

/-- The chunks' lane groups partition a block's pixels. -/
theorem sum_pixels (f : Fin 256 → Fin 1024 → EReal) :
    ∑ a : Fin 16, ∑ l : Fin 128, ∑ k : Fin 32, ∑ g : Fin 4, f (atRow k.val a) (atCol k.val (lane g l)) =
      ∑ r : Fin 256, ∑ c : Fin 1024, f r c := by
  rw [← Fintype.sum_prod_type' (f := fun (r : Fin 256) (c : Fin 1024) => f r c), ← pixelEquiv.sum_comp,
    Fintype.sum_prod_type, Fintype.sum_prod_type]
  refine Finset.sum_congr rfl fun a _ => Finset.sum_congr rfl fun l _ => ?_
  rw [Fintype.sum_prod_type]
  rfl

/-- What a block adds to row `r` in all: the sum over its pixels. -/
theorem blockSum_total (x0 x1 x2 x3 x4 : Vec Ideal S1x256x1024 .f32) (r : ℕ) :
    ∑ a : Fin 16, ∑ l : Fin 128, (blockSum x0 x1 x2 x3 x4 r (ix2 a l) : EReal) =
      ∑ R : Fin 256, ∑ C : Fin 1024, pix r (x0 (ix3 (0 : Fin 1) R C)) (x1 (ix3 (0 : Fin 1) R C)) (x2 (ix3 (0 : Fin 1) R C))
        (x3 (ix3 (0 : Fin 1) R C)) (x4 (ix3 (0 : Fin 1) R C)) := by
  rw [← sum_pixels]
  exact Finset.sum_congr rfl fun a _ => Finset.sum_congr rfl fun l _ => blockSum_apply x0 x1 x2 x3 x4 r a l

end Cert.Proof.Block

end
-- ==== Proof.Sums.lean ====
module

public import Idealize.ShloMosaic.PureOps.Ideal
public import Idealize.ShloMosaic.PureOps.Ideal.Laws
public import Idealize.ShloMosaic.Lib.IdealHost
public import Idealize.ShloMosaic.Lib.ValueIdxCore

@[expose] public section

noncomputable section

/-! Sums over index sets, and quotients of sums of extended reals by a positive number. -/

namespace Cert.Proof.Sums

open Idealize.ShloMosaic ValueIdx

/-- A rank-3 index as three coordinates. -/
def equiv3 (n0 n1 n2 : ℕ) : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

/-- A sum over a rank-3 index set, coordinate by coordinate. -/
theorem sum_three {n0 n1 n2 : ℕ} (f : (⟨3, ![n0, n1, n2]⟩ : Shape).Idx → EReal) :
    ∑ i, f i = ∑ a : Fin n0, ∑ b : Fin n1, ∑ c : Fin n2, f (ix3 a b c) := by
  rw [← (equiv3 n0 n1 n2).symm.sum_comp f, Fintype.sum_prod_type]
  refine Finset.sum_congr rfl fun a _ => ?_
  rw [Fintype.sum_prod_type]
  rfl

/-- A rank-1 index as its coordinate. -/
def equiv1 (n : ℕ) : (⟨1, ![n]⟩ : Shape).Idx ≃ Fin n where
  toFun j := j 0
  invFun a := ix1 a
  left_inv j := (eq_ix1 j).symm
  right_inv _ := rfl

/-- A sum over a rank-1 index set. -/
theorem sum_one {n : ℕ} (f : (⟨1, ![n]⟩ : Shape).Idx → EReal) : ∑ i, f i = ∑ a : Fin n, f (ix1 a) :=
  ((equiv1 n).symm.sum_comp f).symm

/-- Row `r` of block `k` of an image. -/
def rowOf (k : Fin 4) (r : Fin 256) : Fin 1024 := ⟨256 * k.val + r.val, by omega⟩

/-- The rows of an image as rows of its four blocks. -/
def rowEquiv : Fin 4 × Fin 256 ≃ Fin 1024 where
  toFun p := rowOf p.1 p.2
  invFun r := (⟨r.val / 256, by omega⟩, ⟨r.val % 256, by omega⟩)
  left_inv p := by
    obtain ⟨k, r⟩ := p
    refine Prod.ext (Fin.ext ?_) (Fin.ext ?_) <;> simp only [rowOf] <;> omega
  right_inv r := by refine Fin.ext ?_; simp only [rowOf]; omega

/-- The four blocks' rows are the image's. -/
theorem sum_rows (f : Fin 1024 → EReal) : ∑ k : Fin 4, ∑ r : Fin 256, f (rowOf k r) = ∑ r, f r := by
  rw [← rowEquiv.sum_comp, Fintype.sum_prod_type]
  rfl

/-- The pixels of an image in row-major order. -/
def flatEquiv : Fin 1048576 ≃ Fin 1024 × Fin 1024 where
  toFun n := (⟨n.val / 1024, by omega⟩, ⟨n.val % 1024, by omega⟩)
  invFun p := ⟨1024 * p.1.val + p.2.val, by omega⟩
  left_inv n := by refine Fin.ext ?_; simp only []; omega
  right_inv p := by
    obtain ⟨r, c⟩ := p
    refine Prod.ext (Fin.ext ?_) (Fin.ext ?_) <;> simp only [] <;> omega

/-- A sum over the pixels of an image in row-major order, by rows and columns. -/
theorem sum_flat (f : Fin 1024 × Fin 1024 → EReal) : ∑ n, f (flatEquiv n) = ∑ p, f p :=
  flatEquiv.sum_comp f

/-- A sum over the pixels of an image, as a sum over rows and columns. -/
theorem sum_pair (f : Fin 1024 → Fin 1024 → EReal) : ∑ p : Fin 1024 × Fin 1024, f p.1 p.2 = ∑ r, ∑ c, f r c :=
  Fintype.sum_prod_type' f

/-- The reciprocal of a positive number is not negative. -/
theorem recip_nonneg {c : ℝ} (hc : 0 < c) : (0 : EReal) ≤ ((1 / c : ℝ) : EReal) :=
  EReal.coe_nonneg.mpr (by positivity)

/-- Division by a positive number distributes over a sum of two. -/
theorem div_add {c : ℝ} (hc : 0 < c) (x y : EReal) : Ideal.div (x + y) (c : EReal) = Ideal.div x c + Ideal.div y c := by
  rw [Ideal.div_coe hc.ne', Ideal.div_coe hc.ne', Ideal.div_coe hc.ne', mul_comm,
    EReal.left_distrib_of_nonneg_of_ne_top (recip_nonneg hc) (EReal.coe_ne_top _), mul_comm x, mul_comm y]

/-- Division by a positive number distributes over a sum. -/
theorem div_sum {c : ℝ} (hc : 0 < c) {ι : Type} (s : Finset ι) (f : ι → EReal) :
    Ideal.div (∑ i ∈ s, f i) (c : EReal) = ∑ i ∈ s, Ideal.div (f i) c := by
  classical
  induction s using Finset.induction_on with
  | empty => rw [Finset.sum_empty, Finset.sum_empty, Ideal.div_coe hc.ne', zero_mul]
  | insert a s ha ih => rw [Finset.sum_insert ha, Finset.sum_insert ha, div_add hc, ih]

/-- Dividing twice is dividing by the product. -/
theorem div_div {b c : ℝ} (hb : 0 < b) (hc : 0 < c) (x : EReal) :
    Ideal.div (Ideal.div x (b : EReal)) (c : EReal) = Ideal.div x ((b * c : ℝ) : EReal) := by
  rw [Ideal.div_coe hb.ne', Ideal.div_coe hc.ne', Ideal.div_coe (mul_pos hb hc).ne', mul_assoc, ← EReal.coe_mul]
  congr 2; field_simp

/-- The mean of eight equal numbers is that number. -/
theorem mean_const (x : EReal) : Ideal.div (∑ _i : Fin 8, x) ((8 : ℝ) : EReal) = x := by
  rw [div_sum (by norm_num)]
  simp only [Ideal.div_coe (show (8 : ℝ) ≠ 0 by norm_num)]
  have h8 : (0 : EReal) ≤ ((1 / 8 : ℝ) : EReal) := recip_nonneg (by norm_num)
  simp only [Fin.sum_univ_eight]
  have hs : ∀ a b : ℝ, 0 ≤ a → 0 ≤ b → x * (a : EReal) + x * (b : EReal) = x * ((a + b : ℝ) : EReal) := fun a b ha hb => by
    rw [EReal.coe_add, EReal.left_distrib_of_nonneg (EReal.coe_nonneg.mpr ha) (EReal.coe_nonneg.mpr hb)]
  rw [hs _ _ (by norm_num) (by norm_num), hs _ _ (by norm_num) (by norm_num), hs _ _ (by norm_num) (by norm_num),
    hs _ _ (by norm_num) (by norm_num), hs _ _ (by norm_num) (by norm_num), hs _ _ (by norm_num) (by norm_num),
    hs _ _ (by norm_num) (by norm_num)]
  norm_num

/-- The mean over eight images of a per-image quotient plus a common number: the sum of the two programs' uncertainty
    terms. -/
theorem mean_split (s : Fin 8 → EReal) (e : EReal) :
    Ideal.div (∑ i, (Ideal.div (s i) ((4096 : ℝ) : EReal) + e)) ((8 : ℝ) : EReal) =
      Ideal.div (∑ i, s i) ((32768 : ℝ) : EReal) + e := by
  rw [Finset.sum_add_distrib, div_add (by norm_num), mean_const, ← div_sum (by norm_num), div_div (by norm_num) (by norm_num)]
  norm_num

end Cert.Proof.Sums

end
-- ==== Proof.Output.lean ====
module

public import proofs.«01_k».proof.Proof.Block
public import proofs.«01_k».proof.Proof.Sums

@[expose] public section

noncomputable section

/-! The output row of an image over the extended reals, from the sums of the scratch's rows. -/

namespace Cert.Proof.Output

open Cert.KernelIdeal Cert.KernelIdeal.Gen Idealize.ShloMosaic Idealize.SL.Sem Cert.Proof.Chunk ValueIdx

/-- The number of pixels of an image. -/
theorem ofBits_pixels : Ideal.ofBits .f32 0x49800000#32 = ((1048576 : ℝ) : EReal) := by
  simp [Ideal.ofBits, Ideal.ieee, -EReal.coe_mul]; norm_num

/-- The threshold of the distances. -/
theorem ofBits_two : Ideal.ofBits .f32 0x40000000#32 = ((2 : ℝ) : EReal) := by
  simp [Ideal.ofBits, Ideal.ieee, -EReal.coe_mul]; norm_num

/-- The sum of a row. -/
theorem rowSum_eq (w : Vec Ideal S1x16x128 .f32) :
    (rowSum w : EReal) = ∑ a : Fin 16, ∑ l : Fin 128, (w (ix3 (0 : Fin 1) a l) : EReal) := by
  unfold rowSum extractAt
  refine (Ideal.multiReduction_add_total _ _ reduces_S1x16x128_S1 (fun b => by match b with | ⟨0, _⟩ => rfl) _ _ _).trans ?_
  refine (Sums.sum_three _).trans ?_
  rw [Fin.sum_univ_one]
  refine Finset.sum_congr rfl fun a _ => Finset.sum_congr rfl fun l _ => ?_
  refine (shapeCast_ab_1ab_apply _ shapeCasts_S16x128_S1x16x128 0 a l).trans ?_
  exact shapeCast_1ab_ab_apply w shapeCasts_S1x16x128_S16x128 a l

/-- The sum of the excesses of an image's distances over 2. -/
theorem excess_eq (d : Vec Ideal S1x1x4096 .f32) :
    (excess d : EReal) = ∑ j : Fin 4096, max ((d (ix3 (0 : Fin 1) (0 : Fin 1) j) : EReal) - ((2 : ℝ) : EReal)) 0 := by
  unfold excess extractAt
  refine (Ideal.multiReduction_add_total _ _ reduces_S1x1x4096_S1 (fun b => by match b with | ⟨0, _⟩ => rfl) _ _ _).trans ?_
  refine (Sums.sum_three _).trans ?_
  rw [Fin.sum_univ_one, Fin.sum_univ_one]
  refine Finset.sum_congr rfl fun j _ => ?_
  refine (shapeCast_ab_1ab_apply _ shapeCasts_S1x4096_S1x1x4096 0 0 j).trans ?_
  show max (shapeCast S1x4096 d shapeCasts_S1x1x4096_S1x4096 (ix2 (0 : Fin 1) j) - Ideal.ofBits .f32 0x40000000#32) (Ideal.ofBits .f32 0x00000000#32) = _
  rw [ofBits_two, Ideal.ofBits_zero_f32]
  congr 2
  exact shapeCast_1ab_ab_apply d shapeCasts_S1x1x4096_S1x4096 0 j

/-- A count of bin `j` from the row sums: one cumulative count less the next, the first all pixels. -/
def cnt (s : ℕ → EReal) (j : ℕ) : EReal := (if j = 0 then ((1048576 : ℝ) : EReal) else s (j - 1)) - s j

/-- An error of bin `j` from the row sums. -/
def err (s : ℕ → EReal) (j : ℕ) : EReal := Ideal.div (Bins.abs (s (10 + j) - s (10 + (j + 1)))) (Bins.safe (cnt s j))

/-- The count of a bin from the row sums. -/
theorem binCount_eq (s : ℕ → EReal) (j : ℕ) : binCount (F := Ideal) s j = cnt s j := by
  unfold binCount cnt
  cases j with
  | zero => exact congrArg (· - s 0) ofBits_pixels
  | succ j => rw [if_neg (Nat.succ_ne_zero j)]; rfl

/-- A bin is valid exactly if its count is positive. -/
theorem binValid_eq (s : ℕ → EReal) (j : ℕ) : binValid (F := Ideal) s j = BitVec.ofBool (decide (0 < cnt s j)) := by
  show BitVec.ofBool (decide (Ideal.ofBits .f32 0x00000000#32 < binCount (F := Ideal) s j)) = _
  rw [binCount_eq, Ideal.ofBits_zero_f32]

/-- A selection by the bit of a proposition is a case distinction. -/
theorem select_ofBool {α : Type} (p : Prop) [Decidable p] (a b : α) :
    Scalar.select (BitVec.ofBool (decide p)) a b = if p then a else b := by
  unfold Scalar.select
  by_cases h : p
  · rw [if_pos h, if_pos (by simp [h])]
  · rw [if_neg h, if_neg (by simp [h])]

/-- The error of a bin from the row sums. -/
theorem binErr_eq (s : ℕ → EReal) (j : ℕ) : binErr (F := Ideal) s j = err s j := by
  unfold binErr err Bins.safe
  rw [binValid_eq, binCount_eq]
  show Ideal.div _ (Scalar.select _ _ (Ideal.ofBits .f32 0x3F800000#32)) = _
  rw [Ideal.ofBits_one_f32, select_ofBool]
  rfl

/-- The accumulated errors are the sum over the valid bins. -/
theorem errSum_eq (s : ℕ → EReal) : ∀ n : ℕ,
    errSum (F := Ideal) s n = ∑ j : Fin n, if 0 < cnt s j.val then err s j.val else 0
  | 0 => by rw [Fin.sum_univ_zero]; exact Ideal.ofBits_zero_f32
  | n + 1 => by
    rw [Fin.sum_univ_castSucc]
    show errSum (F := Ideal) s n + Scalar.select (binValid (F := Ideal) s n) (binErr (F := Ideal) s n) (Ideal.ofBits .f32 0x00000000#32) = _
    rw [errSum_eq s n, binValid_eq, binErr_eq, Ideal.ofBits_zero_f32, select_ofBool]
    rfl

/-- The accumulated ones are the number of valid bins. -/
theorem validSum_eq (s : ℕ → EReal) : ∀ n : ℕ,
    validSum (F := Ideal) s n = ∑ j : Fin n, Bins.bit (0 < cnt s j.val)
  | 0 => by rw [Fin.sum_univ_zero]; exact Ideal.ofBits_zero_f32
  | n + 1 => by
    rw [Fin.sum_univ_castSucc]
    show validSum (F := Ideal) s n + Scalar.select (binValid (F := Ideal) s n) (Ideal.ofBits .f32 0x3F800000#32) (Ideal.ofBits .f32 0x00000000#32) = _
    rw [validSum_eq s n, binValid_eq, Ideal.ofBits_one_f32, Ideal.ofBits_zero_f32, select_ofBool]
    rfl

/-- The calibration loss from the row sums. -/
theorem calLoss_eq (s : ℕ → EReal) :
    calLoss (F := Ideal) s = Bins.calib (fun j => cnt s j.val) (fun j => err s j.val) := by
  unfold calLoss Bins.calib
  rw [errSum_eq, validSum_eq]
  show Scalar.select (BitVec.ofBool (decide (Ideal.ofBits .f32 0x00000000#32 < _)))
    (Ideal.div _ (max _ (Ideal.ofBits .f32 0x3F800000#32))) (Ideal.ofBits .f32 0x00000000#32) = _
  rw [select_ofBool, Ideal.ofBits_one_f32]
  simp only [Ideal.ofBits_zero_f32]

/-- Where lane `n` is written. -/
theorem laneIs_apply (n : ℕ) (hn : n < 2 ^ 32) (l : Fin 128) :
    laneIs (BitVec.ofNat 32 n) (ix2 (0 : Fin 1) l) = BitVec.ofBool (decide (l.val = n)) := by
  show BitVec.ofBool (BitVec.ofNat 32 (0 * 128 + l.val) == BitVec.ofNat 32 n) = _
  rw [Nat.zero_mul, Nat.zero_add, beq_eq_decide]
  congr 1
  apply decide_eq_decide.mpr
  have hl := l.isLt
  constructor
  · intro h
    have := congrArg BitVec.toNat h
    rw [BitVec.toNat_ofNat, BitVec.toNat_ofNat, Nat.mod_eq_of_lt (by omega), Nat.mod_eq_of_lt hn] at this
    exact this
  · intro h
    rw [h]

/-- The output row read at a lane. -/
theorem outRow_apply (s : ℕ → EReal) (d : Vec Ideal S1x1x4096 .f32) (l : Fin 128) :
    outRow (F := Ideal) s d (ix3 (0 : Fin 1) (0 : Fin 1) l) =
      if l.val = 3 then excess d else if l.val = 2 then s 22 else if l.val = 1 then calLoss (F := Ideal) s
        else if l.val = 0 then s 21 else (0 : EReal) := by
  unfold outRow
  refine (shapeCast_ab_1ab_apply _ shapeCasts_S1x128_S1x1x128 0 0 l).trans ?_
  show Scalar.select (laneIs (BitVec.ofNat 32 3) (ix2 (0 : Fin 1) l)) (excess d)
    (Scalar.select (laneIs (BitVec.ofNat 32 2) (ix2 (0 : Fin 1) l)) (s 22)
      (Scalar.select (laneIs (BitVec.ofNat 32 1) (ix2 (0 : Fin 1) l)) (calLoss (F := Ideal) s)
        (Scalar.select (laneIs (BitVec.ofNat 32 0) (ix2 (0 : Fin 1) l)) (s 21) (Ideal.ofBits .f32 0x00000000#32)))) = _
  rw [laneIs_apply 3 (by norm_num), laneIs_apply 2 (by norm_num), laneIs_apply 1 (by norm_num), laneIs_apply 0 (by norm_num),
    select_ofBool, select_ofBool, select_ofBool, select_ofBool, Ideal.ofBits_zero_f32]

end Cert.Proof.Output

end
-- ==== Proof.Points.lean ====
module

public import proofs.«01_k».proof.Proof.Gen.KernelIdeal.Frame
public import proofs.«01_k».proof.Proof.Scratch
public import proofs.«01_k».proof.Proof.Output
public import Idealize.ShloMosaic.Lib.Pipeline.ValueKit
public import Idealize.ShloMosaic.Lib.Claim

@[expose] public section

set_option maxRecDepth 65536

noncomputable section

/-! What an image's four grid points leave in the output block, over the extended reals. -/

namespace Cert.Proof.Points

open Cert.KernelIdeal Cert.KernelIdeal.Gen Idealize.ShloMosaic.TcCoe Idealize.SL.Sem
open Idealize.ShloMosaic hiding ix1 ix2 ix3
open Cert.Proof.Chunk Cert.Proof.Rows Cert.Proof.Scratch Idealize.ShloMosaic.ValueIdx

variable (m : (ℓ : Loc nD τ sig) → Buf (Elt Ideal) ℓ)

/-- Image number `b`. -/
def image (b : ℕ) : Fin 8 := ⟨b % 8, Nat.mod_lt _ (by decide)⟩

/-- Block `k` of image `b` of an array of images. -/
def block (x : Vec Ideal S8x1024x1024 .f32) (b k : ℕ) : Vec Ideal S1x256x1024 .f32 :=
  fun j => x (ix3 (image b) (⟨(256 * k + (j 1).val) % 1024, Nat.mod_lt _ (by decide)⟩ : Fin 1024) (j 2))

/-- An entry of a block is a pixel of the image. -/
theorem block_apply (x : Vec Ideal S8x1024x1024 .f32) (b : ℕ) (k : Fin 4) (R : Fin 256) (C : Fin 1024) :
    block x b k.val (ix3 (0 : Fin 1) R C) = x (ix3 (image b) (Sums.rowOf k R) C) := by
  have e : (⟨(256 * k.val + R.val) % 1024, Nat.mod_lt _ (by decide)⟩ : Fin 1024) = Sums.rowOf k R :=
    Fin.ext (Nat.mod_eq_of_lt (by omega))
  show x (ix3 (image b) (⟨(256 * k.val + R.val) % 1024, Nat.mod_lt _ (by decide)⟩ : Fin 1024) C) = _
  rw [e]

/-- The distances of image `b`. -/
def dist (d : Vec Ideal S8x4096 .f32) (b : ℕ) : Vec Ideal S1x1x4096 .f32 :=
  fun j => d (ix2 (image b) (j 2))

/-- The block that each window has at a point. -/
theorem index_eq : ∀ t : Fin cfg0.N, (win0_0.index t = ![t.val / 4, t.val % 4, 0] ∧ win0_1.index t = ![t.val / 4, t.val % 4, 0])
    ∧ (win0_2.index t = ![t.val / 4, t.val % 4, 0] ∧ win0_3.index t = ![t.val / 4, t.val % 4, 0])
    ∧ (win0_4.index t = ![t.val / 4, t.val % 4, 0] ∧ win0_5.index t = ![t.val / 4, 0, 0]) ∧ win0_6.index t = ![t.val / 4, 0, 0] :=
  (by decide +kernel : ∀ t : Fin grid0.N, _)

/-- There are 32 points. -/
theorem point_lt (t : Fin cfg0.N) : t.val < 32 := lt_of_lt_of_eq t.isLt N_0

/-- Window 0 reads its image's block. -/
theorem iblk0 (c : Dev nD) (t : Fin cfg0.N) :
    (iblk m c 0 t : Vec Ideal S1x256x1024 .f32) = block (m ((c : Thread nD τ).loc main_arg0)) (t.val / 4) (t.val % 4) := by
  have ht := point_lt t
  have e := (index_eq t).1.1
  rw [← (V_main_arg0 m c : V m c main_arg0 = _)]
  funext j
  unfold block image
  blk_ext [iblk, e]
  all_goals first | rfl | (simp only [ix3]; omega)

/-- Window 1 reads its image's block. -/
theorem iblk1 (c : Dev nD) (t : Fin cfg0.N) :
    (iblk m c 1 t : Vec Ideal S1x256x1024 .f32) = block (m ((c : Thread nD τ).loc main_arg1)) (t.val / 4) (t.val % 4) := by
  have ht := point_lt t
  have e := (index_eq t).1.2
  rw [← (V_main_arg1 m c : V m c main_arg1 = _)]
  funext j
  unfold block image
  blk_ext [iblk, e]
  all_goals first | rfl | (simp only [ix3]; omega)

/-- Window 2 reads its image's block. -/
theorem iblk2 (c : Dev nD) (t : Fin cfg0.N) :
    (iblk m c 2 t : Vec Ideal S1x256x1024 .f32) = block (m ((c : Thread nD τ).loc main_arg2)) (t.val / 4) (t.val % 4) := by
  have ht := point_lt t
  have e := (index_eq t).2.1.1
  rw [← (V_main_arg2 m c : V m c main_arg2 = _)]
  funext j
  unfold block image
  blk_ext [iblk, e]
  all_goals first | rfl | (simp only [ix3]; omega)

/-- Window 3 reads its image's block. -/
theorem iblk3 (c : Dev nD) (t : Fin cfg0.N) :
    (iblk m c 3 t : Vec Ideal S1x256x1024 .f32) = block (m ((c : Thread nD τ).loc main_arg3)) (t.val / 4) (t.val % 4) := by
  have ht := point_lt t
  have e := (index_eq t).2.1.2
  rw [← (V_main_arg3 m c : V m c main_arg3 = _)]
  funext j
  unfold block image
  blk_ext [iblk, e]
  all_goals first | rfl | (simp only [ix3]; omega)

/-- Window 4 reads its image's block. -/
theorem iblk4 (c : Dev nD) (t : Fin cfg0.N) :
    (iblk m c 4 t : Vec Ideal S1x256x1024 .f32) = block (m ((c : Thread nD τ).loc main_arg4)) (t.val / 4) (t.val % 4) := by
  have ht := point_lt t
  have e := (index_eq t).2.2.1.1
  rw [← (V_main_arg4 m c : V m c main_arg4 = _)]
  funext j
  unfold block image
  blk_ext [iblk, e]
  all_goals first | rfl | (simp only [ix3]; omega)

/-- Window 5 reads its image's distances. -/
theorem iblk5 (c : Dev nD) (t : Fin cfg0.N) :
    (iblk m c 5 t : Vec Ideal S1x1x4096 .f32) = dist (m ((c : Thread nD τ).loc main_arg5)) (t.val / 4) := by
  have ht := point_lt t
  have e := (index_eq t).2.2.1.2
  funext j
  obtain ⟨k, rfl⟩ : ∃ k : Fin 4096, j = ix3 (0 : Fin 1) (0 : Fin 1) k :=
    ⟨j 2, by rw [ValueIdx.eq_ix3 j]; congr 1 <;> exact Subsingleton.elim (α := Fin 1) _ _⟩
  show V m c main_v0 (((cfg0.win 5).blk t).view.emb (ix3 (0 : Fin 1) (0 : Fin 1) k)) = m ((c : Thread nD τ).loc main_arg5) (ix2 (image (t.val / 4)) k)
  have he : ((cfg0.win 5).blk t).view.emb (ix3 (0 : Fin 1) (0 : Fin 1) k) = ix3 (image (t.val / 4)) (0 : Fin 1) k := by
    unfold image
    blk_ext [e]
    all_goals first | rfl | (simp only [ix3]; omega)
  rw [he]
  entry_read
  refine shapeCast_apply _ _ _ _ ?_
  refine (Shape.rowMajor_val_two (d := ![8, 4096]) _).trans (Eq.trans ?_ (Shape.rowMajor_val_three (d := ![8, 1, 4096]) _).symm)
  show (image (t.val / 4)).val * 4096 + k.val = ((image (t.val / 4)).val * 1 + 0) * 4096 + k.val
  omega

/-- The row of block sums of row `r` of the scratch at a point of image `b`. -/
def added (c : Dev nD) (r : Fin 23) (a : Fin 16) (l : Fin 128) (b k : ℕ) : EReal :=
  blockSum (block (m ((c : Thread nD τ).loc main_arg0)) b k) (block (m ((c : Thread nD τ).loc main_arg1)) b k)
    (block (m ((c : Thread nD τ).loc main_arg2)) b k) (block (m ((c : Thread nD τ).loc main_arg3)) b k)
    (block (m ((c : Thread nD τ).loc main_arg4)) b k) r.val (ix2 a l)

/-- At an image's first point the scratch starts from zero. -/
theorem scratch_first (c : Dev nD) (r : Fin 23) (a : Fin 16) (l : Fin 128) (t : Fin cfg0.N) (h : t.val % 4 = 0) :
    (outsAt0 m c t.val t.isLt).2 (ix3 r a l) = (0 : EReal) + added m c r a l (t.val / 4) (t.val % 4) := by
  rw [outsAt0_A m c t h (by omega)]
  dsimp only
  rw [soutA_apply, iblk0, iblk1, iblk2, iblk3, iblk4]
  exact congrArg (· + _) Ideal.ofBits_zero_f32

/-- At every later point the block's sums are added. -/
theorem scratch_later (c : Dev nD) (r : Fin 23) (a : Fin 16) (l : Fin 128) (t : Fin cfg0.N) (h : ¬t.val % 4 = 0) :
    (outsAt0 m c t.val t.isLt).2 (ix3 r a l) =
      ((outsAt0 m c (t.val - 1) (Nat.lt_of_le_of_lt (Nat.sub_le _ _) t.isLt)).2 (ix3 r a l) : EReal)
        + added m c r a l (t.val / 4) (t.val % 4) := by
  by_cases h1 : t.val % 4 = 3
  · rw [outsAt0_C m c t h h1]
    dsimp only
    rw [soutC_apply, iblk0, iblk1, iblk2, iblk3, iblk4]
    rfl
  · rw [outsAt0_B m c t h h1]
    dsimp only
    rw [soutB_apply, iblk0, iblk1, iblk2, iblk3, iblk4]
    rfl

/-- So the scratch holds the sums of the image's blocks so far. -/
theorem scratch_eq (c : Dev nD) (r : Fin 23) (a : Fin 16) (l : Fin 128) (t : Fin cfg0.N) :
    (outsAt0 m c t.val t.isLt).2 (ix3 r a l)
      = (0 : EReal) + ∑ k ∈ Finset.range (t.val % 4 + 1), added m c r a l (t.val / 4) k :=
  Pipeline.eq_sum_of_reset_step_divmod (M := EReal) (fun n h => (outsAt0 m c n h).2 (ix3 r a l)) 4 0
    (fun b k => added m c r a l b k) (scratch_first m c r a l) (scratch_later m c r a l) t

/-- Sum of row `r` over the pixels of image `b`. -/
def total (c : Dev nD) (b : ℕ) (r : ℕ) : EReal :=
  ∑ R : Fin 1024, ∑ C : Fin 1024, Block.pix r (m ((c : Thread nD τ).loc main_arg0) (ix3 (image b) R C))
    (m ((c : Thread nD τ).loc main_arg1) (ix3 (image b) R C)) (m ((c : Thread nD τ).loc main_arg2) (ix3 (image b) R C))
    (m ((c : Thread nD τ).loc main_arg3) (ix3 (image b) R C)) (m ((c : Thread nD τ).loc main_arg4) (ix3 (image b) R C))

/-- The four blocks' sums make the image's. -/
theorem total_eq (c : Dev nD) (b : ℕ) (r : Fin 23) :
    ∑ a : Fin 16, ∑ l : Fin 128, ((0 : EReal) + ∑ k ∈ Finset.range 4, added m c r a l b k) = total m c b r.val := by
  simp only [zero_add, ← Fin.sum_univ_eq_sum_range (fun k => added m c r _ _ b k) 4]
  rw [Finset.sum_congr rfl fun a _ => Finset.sum_comm, Finset.sum_comm]
  unfold total
  rw [← Sums.sum_rows]
  refine Finset.sum_congr rfl fun k _ => ?_
  refine (Block.blockSum_total _ _ _ _ _ r.val).trans ?_
  refine Finset.sum_congr rfl fun R _ => Finset.sum_congr rfl fun C _ => ?_
  rw [block_apply, block_apply, block_apply, block_apply, block_apply]

/-- The output row of image `b`: its sums, put through the finish. -/
def row (c : Dev nD) (b : ℕ) : FVec Ideal S1x1x128 .f32 :=
  outRow (F := Ideal) (fun r => if r < 23 then total m c b r else (0 : EReal)) (dist (m ((c : Thread nD τ).loc main_arg5)) b)

/-- At an image's last point the output block is the image's row. -/
theorem out_last (c : Dev nD) (t : Fin cfg0.N) (h : t.val % 4 = 3) : (outsAt0 m c t.val t.isLt).1 = row m c (t.val / 4) := by
  have hs : ∀ r : Fin 23, ∀ a l, _ := fun r a l => scratch_eq m c r a l t
  rw [outsAt0_C m c t (by omega) h] at hs ⊢
  dsimp only at hs ⊢
  rw [outC_eq, iblk5]
  unfold row
  refine congrArg (fun s => outRow (F := Ideal) s _) (funext fun r => ?_)
  by_cases hr : r < 23
  · rw [dif_pos hr, if_pos hr, ← total_eq m c (t.val / 4) ⟨r, hr⟩, Output.rowSum_eq]
    refine Finset.sum_congr rfl fun a _ => Finset.sum_congr rfl fun l _ => ?_
    have h' := hs ⟨r, hr⟩ a l
    rw [soutC_apply, h] at h'
    rw [← h', rowOut_apply]
    exact congrArg (· + _) (ld_row _ ⟨r, hr⟩ a l)
  · rw [dif_neg hr, if_neg hr]
    exact Ideal.ofBits_zero_f32

end Cert.Proof.Points

end
-- ==== Proof.KernelValue.lean ====
module

public import proofs.«01_k».proof.Proof.Points
public import Idealize.ShloMosaic.Lib.StableHlo.Run

@[expose] public section

set_option maxRecDepth 65536

noncomputable section

/-! The kernel's four results over the extended reals, from the images' output rows. -/

namespace Cert.Proof.KernelValue

open Cert.KernelIdeal Cert.KernelIdeal.Gen Idealize.ShloMosaic.TcCoe Idealize.SL.Sem
open Idealize.ShloMosaic hiding ix1 ix2 ix3
open Cert.Proof.Chunk Cert.Proof.Points Idealize.ShloMosaic.ValueIdx

variable (m : (ℓ : Loc nD τ sig) → Buf (Elt Ideal) ℓ) (ρ : Dev nD → PrngReg)

/-- The output array: image `b`'s row at row `b`. -/
def rows (c : Dev nD) : Vec Ideal S8x1x128 .f32 := fun j => row m c (j 0).val (ix3 (0 : Fin 1) (0 : Fin 1) (j 2))

/-- After the run the output array holds the images' rows. -/
theorem final (c : Dev nD) : (dats m 0 c).arrAt 6 (cfgs 0).N = rows m c := by
  refine (dats m 0 c).arrAt_eq_of_covers 6 _ (by decide +kernel) fun t hf y => ?_
  have ht := point_lt t
  have h3 := (flush0_6 t).mp hf
  have e := (index_eq t).2.2.2
  blk_simp
  rw [after0_6, out_last m c t h3]
  obtain ⟨k, rfl⟩ : ∃ k : Fin 128, y = ix3 (0 : Fin 1) (0 : Fin 1) k :=
    ⟨y 2, by rw [ValueIdx.eq_ix3 y]; congr 1 <;> exact Subsingleton.elim (α := Fin 1) _ _⟩
  have he : ((cfg0.win 6).blk t).view.emb (ix3 (0 : Fin 1) (0 : Fin 1) k) = ix3 (image (t.val / 4)) (0 : Fin 1) k := by
    unfold image
    blk_ext [e]
    all_goals first | rfl | (simp only [ix3]; omega)
  refine Eq.trans ?_ (congrArg (rows m c) he).symm
  show row m c (t.val / 4) _ = row m c (t.val / 4 % 8) _
  rw [Nat.mod_eq_of_lt (by omega)]

/-- Column `n` of the output array's rows. -/
def column (O : Vec Ideal S8x1x128 .f32) (n : ℕ) (h : S8x4.Slices ![0, n] S8x1) : Vec Ideal S8 .f32 :=
  shapeCast S8 (extractStridedSlice S8x1 ![0, n] (shapeCast S8x4 (extractStridedSlice S8x1x4 ![0, 0, 0] O slices_S8x1x128_S8x1x4_0_0_0) shapeCasts_S8x1x4_S8x4) h) shapeCasts_S8x1_S8

/-- The mean of a column. -/
def meanOf (v : Vec Ideal S8 .f32) (w : BitVec 32) : Vec Ideal S_ .f32 :=
  Host.divf (F := Ideal) (Host.reduceAdd v (constant S_ .f32 0x00000000#32) reducesTo_S8_S_d0 h_S_) (constant S_ .f32 w)

/-- The segmentation loss as a function of the output array: the mean of the first column over all pixels. -/
def segOf (O : Vec Ideal S8x1x128 .f32) : Vec Ideal S_ .f32 := meanOf (column O 0 slices_S8x4_S8x1_0_0) 0x4B000000#32
/-- The calibration loss: the mean of the second column over the images. -/
def calOf (O : Vec Ideal S8x1x128 .f32) : Vec Ideal S_ .f32 := meanOf (column O 1 slices_S8x4_S8x1_0_1) 0x41000000#32
/-- The uncertainty loss: the mean excess plus the mean of the two uncertainties. -/
def uncertOf (O : Vec Ideal S8x1x128 .f32) : Vec Ideal S_ .f32 :=
  addf (F := Ideal) (φ := .f32) (meanOf (column O 3 slices_S8x4_S8x1_0_3) 0x47000000#32) (meanOf (column O 2 slices_S8x4_S8x1_0_2) 0x4B000000#32)
/-- The total loss. -/
def totalOf (O : Vec Ideal S8x1x128 .f32) : Vec Ideal S_ .f32 :=
  addf (F := Ideal) (φ := .f32) (addf (F := Ideal) (φ := .f32) (segOf O) (calOf O)) (mulf (F := Ideal) (φ := .f32) (constant S_ .f32 0x3DCCCCCD#32) (uncertOf O))

/-- The lines after the launch leave the first mean. -/
theorem tail_seg (V : Valuation τ sig (Elt Ideal)) : StableHlo.after (List.flatten [hostOps1]) V (Proc.devRef .tc main_v7)
    = segOf (V (Proc.devRef .tc main_v1)) := by
  simp only [hostOps1, List.flatten_cons, List.flatten_nil, List.append_nil]
  after_results
  rfl

/-- They leave the mean of the calibration losses. -/
theorem tail_cal (V : Valuation τ sig (Elt Ideal)) : StableHlo.after (List.flatten [hostOps1]) V (Proc.devRef .tc main_v11)
    = calOf (V (Proc.devRef .tc main_v1)) := by
  simp only [hostOps1, List.flatten_cons, List.flatten_nil, List.append_nil]
  after_results
  rfl

/-- They leave the uncertainty loss. -/
theorem tail_uncert (V : Valuation τ sig (Elt Ideal)) : StableHlo.after (List.flatten [hostOps1]) V (Proc.devRef .tc main_v20)
    = uncertOf (V (Proc.devRef .tc main_v1)) := by
  simp only [hostOps1, List.flatten_cons, List.flatten_nil, List.append_nil]
  after_results
  rfl

/-- They leave the weighted sum. -/
theorem tail_total (V : Valuation τ sig (Elt Ideal)) : StableHlo.after (List.flatten [hostOps1]) V (Proc.devRef .tc main_v23)
    = totalOf (V (Proc.devRef .tc main_v1)) := by
  simp only [hostOps1, List.flatten_cons, List.flatten_nil, List.append_nil]
  after_results
  rfl

/-- What the lines after the launch read of the output array. -/
theorem launch_out (c : Dev nD) :
    Pipeline.withArrays (cfgs 0).spec c (V0 m c) (fun w => (dats m 0 c).arrAt w (cfgs 0).N) (Proc.devRef .tc main_v1) = rows m c :=
  (Pipeline.withArrays_arr spec0 (by decide) c (V0 m c) (fun w => (dats m 0 c).arrAt w (cfgs 0).N) 6).trans (final m c)

/-- The kernel's run: its four results as functions of the images' rows. -/
theorem run : θ_run defs (onTc (τ := τ) (main (F := Ideal))) ⟨m, fun _ => 0, ρ⟩ (fun r => ∀ c : Dev nD,
      r.2.mem ((c : Thread nD τ).loc main_v23) = totalOf (rows m c)
      ∧ r.2.mem ((c : Thread nD τ).loc main_v7) = segOf (rows m c)
      ∧ r.2.mem ((c : Thread nD τ).loc main_v11) = calOf (rows m c)
      ∧ r.2.mem ((c : Thread nD τ).loc main_v20) = uncertOf (rows m c)) := by
  refine (θ_run defs _ _).mono (fun r h c => ⟨?_, ?_, ?_, ?_⟩) (run_main m ρ)
  · exact ((h c).2 main_v23 (Pipeline.mem_restRefs_of main_v23 (by decide) (by decide))).trans
      ((tail_total _).trans (congrArg totalOf (launch_out m c)))
  · exact ((h c).2 main_v7 (Pipeline.mem_restRefs_of main_v7 (by decide) (by decide))).trans
      ((tail_seg _).trans (congrArg segOf (launch_out m c)))
  · exact ((h c).2 main_v11 (Pipeline.mem_restRefs_of main_v11 (by decide) (by decide))).trans
      ((tail_cal _).trans (congrArg calOf (launch_out m c)))
  · exact ((h c).2 main_v20 (Pipeline.mem_restRefs_of main_v20 (by decide) (by decide))).trans
      ((tail_uncert _).trans (congrArg uncertOf (launch_out m c)))

/-- The number of all pixels. -/
theorem ofBits_all : Ideal.ofBits .f32 0x4B000000#32 = ((8388608 : ℝ) : EReal) := by
  simp [Ideal.ofBits, Ideal.ieee, -EReal.coe_mul]

/-- The number of images. -/
theorem ofBits_eight : Ideal.ofBits .f32 0x41000000#32 = ((8 : ℝ) : EReal) := by
  simp [Ideal.ofBits, Ideal.ieee, -EReal.coe_mul]; norm_num

/-- The number of all distances. -/
theorem ofBits_distances : Ideal.ofBits .f32 0x47000000#32 = ((32768 : ℝ) : EReal) := by
  simp [Ideal.ofBits, Ideal.ieee, -EReal.coe_mul]; norm_num

/-- A column holds one lane of every row. -/
theorem column_apply (O : Vec Ideal S8x1x128 .f32) (n : Fin 4) (h : S8x4.Slices ![0, n.val] S8x1) (b : Fin 8) :
    column O n.val h (ix1 b) = O (ix3 b (0 : Fin 1) (⟨n.val, by omega⟩ : Fin 128)) := by
  unfold column
  refine (shapeCast_apply _ shapeCasts_S8x1_S8 (ix1 b) (ix2 b (0 : Fin 1)) ?_).trans ?_
  · refine (Shape.rowMajor_val_two (d := ![8, 1]) _).trans (Eq.trans ?_ (Shape.rowMajor_val_one (d := ![8]) _).symm)
    show b.val * 1 + 0 = b.val
    omega
  refine (extractStridedSlice_apply _ _ h _ (ix2 b n) (fun a => by
    match a with
    | ⟨0, _⟩ => show b.val = 0 + b.val; omega
    | ⟨1, _⟩ => show n.val = n.val + 0; omega)).trans ?_
  refine (shapeCast_apply _ shapeCasts_S8x1x4_S8x4 (ix2 b n) (ix3 b (0 : Fin 1) n) ?_).trans ?_
  · refine (Shape.rowMajor_val_three (d := ![8, 1, 4]) _).trans (Eq.trans ?_ (Shape.rowMajor_val_two (d := ![8, 4]) _).symm)
    show (b.val * 1 + 0) * 4 + n.val = b.val * 4 + n.val
    omega
  exact extractStridedSlice_apply _ _ slices_S8x1x128_S8x1x4_0_0_0 _ _ (fun a => by
    match a with
    | ⟨0, _⟩ => show b.val = 0 + b.val; omega
    | ⟨1, _⟩ => show 0 = 0 + 0; omega
    | ⟨2, _⟩ => show n.val = 0 + n.val; omega)

/-- A mean is the quotient of the sum. -/
theorem meanOf_eq (v : Vec Ideal S8 .f32) (w : BitVec 32) (d : EReal) (hd : Ideal.ofBits .f32 w = d) (f : Fin 8 → EReal)
    (hf : ∀ b, v (ix1 b) = f b) : meanOf v w = fun _ => Ideal.div (∑ b : Fin 8, f b) d := by
  funext j
  show Ideal.div (Ideal.hostReduceAdd reducesTo_S8_S_d0 v (Ideal.ofBits .f32 0x00000000#32) j) (Ideal.ofBits .f32 w) = _
  rw [Ideal.hostReduceAdd_total _ (fun b => b.elim0), Ideal.ofBits_zero_f32, zero_add, hd, Sums.sum_one]
  exact congrArg (Ideal.div · d) (Finset.sum_congr rfl fun b _ => hf b)

/-- The sums of the scratch's rows over the pixels of image `b`. -/
def sums (c : Dev nD) (b : Fin 8) (r : ℕ) : EReal := if r < 23 then total m c b.val r else 0

/-- The excess of a row's distances over 2. -/
def excessOf (d : Vec Ideal S8x4096 .f32) (b : Fin 8) : EReal :=
  ∑ j : Fin 4096, max ((d (ix2 b j) : EReal) - ((2 : ℝ) : EReal)) (0 : EReal)

/-- The image with the number of `b` is `b`. -/
theorem image_eq (b : Fin 8) : image b.val = b := Fin.ext (Nat.mod_eq_of_lt b.isLt)

/-- The first lanes of an image's row. -/
theorem lane_apply (c : Dev nD) (n : Fin 4) (h : S8x4.Slices ![0, n.val] S8x1) (b : Fin 8) :
    column (rows m c) n.val h (ix1 b) = (if n.val = 3 then excessOf (m ((c : Thread nD τ).loc main_arg5)) b else if n.val = 2 then sums m c b 22
      else if n.val = 1 then Bins.calib (fun j => Output.cnt (sums m c b) j.val) (fun j => Output.err (sums m c b) j.val)
      else sums m c b 21 : EReal) := by
  rw [column_apply]
  refine (Output.outRow_apply _ _ _).trans ?_
  have he : excess (F := Ideal) (dist (m ((c : Thread nD τ).loc main_arg5)) b.val) = excessOf (m ((c : Thread nD τ).loc main_arg5)) b :=
    (Output.excess_eq _).trans (Finset.sum_congr rfl fun j _ => by
      unfold Points.dist
      rw [image_eq])
  rw [show excess (F := Ideal) (dist (m ((c : Thread nD τ).loc main_arg5)) ((ix3 b (0 : Fin 1) (⟨n.val, by omega⟩ : Fin 128)) 0 : Fin 8).val) = excessOf (m ((c : Thread nD τ).loc main_arg5)) b from he]
  have hc := Output.calLoss_eq (sums m c b)
  by_cases h3 : n.val = 3
  · rw [if_pos h3, if_pos h3]
  by_cases h2 : n.val = 2
  · rw [if_neg h3, if_neg h3, if_pos h2, if_pos h2]; rfl
  by_cases h1 : n.val = 1
  · rw [if_neg h3, if_neg h3, if_neg h2, if_neg h2, if_pos h1, if_pos h1]; exact hc
  · rw [if_neg h3, if_neg h3, if_neg h2, if_neg h2, if_neg h1, if_neg h1, if_pos (by omega : n.val = 0)]; rfl

/-- The segmentation loss. -/
theorem seg_eq (c : Dev nD) : segOf (rows m c) = fun _ => Ideal.div (∑ b : Fin 8, sums m c b 21) ((8388608 : ℝ) : EReal) :=
  meanOf_eq _ _ _ ofBits_all _ (lane_apply m c 0 slices_S8x4_S8x1_0_0)

/-- The calibration loss. -/
theorem cal_eq (c : Dev nD) : calOf (rows m c) = fun _ => Ideal.div (∑ b : Fin 8, Bins.calib
    (fun j => Output.cnt (sums m c b) j.val) (fun j => Output.err (sums m c b) j.val)) ((8 : ℝ) : EReal) :=
  meanOf_eq _ _ _ ofBits_eight _ (lane_apply m c 1 slices_S8x4_S8x1_0_1)

/-- The uncertainty loss. -/
theorem uncert_eq (c : Dev nD) : uncertOf (rows m c) = fun _ => Ideal.div (∑ b : Fin 8, excessOf (m ((c : Thread nD τ).loc main_arg5)) b) ((32768 : ℝ) : EReal)
    + Ideal.div (∑ b : Fin 8, sums m c b 22) ((8388608 : ℝ) : EReal) := by
  unfold uncertOf
  refine (congrArg₂ (addf (F := Ideal) (φ := .f32))
    (meanOf_eq _ _ _ ofBits_distances _ (lane_apply m c 3 slices_S8x4_S8x1_0_3))
    (meanOf_eq _ _ _ ofBits_all _ (lane_apply m c 2 slices_S8x4_S8x1_0_2))).trans ?_
  rfl

end Cert.Proof.KernelValue

end
-- ==== Proof.RefPixel.lean ====
module

public import proofs.«01_k».proof.Proof.Gen.ReferenceIdeal.Read
public import proofs.«01_k».proof.Proof.Bins
public import proofs.«01_k».proof.Proof.Sums

@[expose] public section

noncomputable section

/-! The reference's numbers over the extended reals: one pixel's probability, cross entropy and bin, and the two means
    that need no bins. -/

namespace Cert.Proof.RefPixel

open Cert.ReferenceIdeal Cert.ReferenceIdeal.Gen Cert.ReferenceIdeal.Read Idealize.ShloMosaic Cert.Proof.Pixel
open Idealize.ShloMosaic.ValueIdx

/-- The clamp of the logarithms is -100. -/
theorem ofBits_clamp : Ideal.ofBits .f32 0xC2C80000#32 = ((-100 : ℝ) : EReal) := by
  simp [Ideal.ofBits, Ideal.ieee, -EReal.coe_mul, -EReal.coe_neg]; norm_num

/-- The number of all pixels. -/
theorem ofBits_pixels : Ideal.ofBits .f32 0x4B000000#32 = ((8388608 : ℝ) : EReal) := by
  simp [Ideal.ofBits, Ideal.ieee, -EReal.coe_mul]

/-- The number of images. -/
theorem ofBits_images : Ideal.ofBits .f32 0x41000000#32 = ((8 : ℝ) : EReal) := by
  simp [Ideal.ofBits, Ideal.ieee, -EReal.coe_mul]; norm_num

/-- The number of distances of an image. -/
theorem ofBits_row : Ideal.ofBits .f32 0x45800000#32 = ((4096 : ℝ) : EReal) := by
  simp [Ideal.ofBits, Ideal.ieee, -EReal.coe_mul]; norm_num

/-- The threshold of the distances. -/
theorem ofBits_two : Ideal.ofBits .f32 0x40000000#32 = ((2 : ℝ) : EReal) := by
  simp [Ideal.ofBits, Ideal.ieee, -EReal.coe_mul]; norm_num

/-- The number of bins. -/
theorem ofBits_ten : Ideal.ofBits .f32 0x41200000#32 = ((10 : ℝ) : EReal) := by
  simp [Ideal.ofBits, Ideal.ieee, -EReal.coe_mul]; norm_num

/-- The probability at a pixel. -/
theorem prob_apply (x0 : Vec Ideal S8x1024x1024 .f32) (i : S8x1024x1024.Idx) :
    val_main_v5 (F := Ideal) x0 i = prob (x0 i) := by
  rw [val_main_v5_apply, val_main_v4_apply, val_main_cst_0_apply, val_main_v3_apply, val_main_v2_apply, val_main_cst_apply,
    val_main_v1_apply, val_main_v0_apply]
  show Ideal.div (Ideal.ofBits .f32 0x3F800000#32) (Ideal.ofBits .f32 0x3F800000#32 + Ideal.exp (-x0 i)) = _
  rw [Ideal.ofBits_one_f32, prob]

/-- The weighted cross entropy at a pixel. -/
theorem entropy_apply (x0 x1 x2 : Vec Ideal S8x1024x1024 .f32) (i : S8x1024x1024.Idx) :
    val_main_v21 (F := Ideal) x0 x1 x2 i = entropyOfProb (prob (x0 i)) (x1 i) (x2 i) := by
  rw [val_main_v21_apply, val_main_v16_apply, val_main_v15_apply, val_main_v11_apply, val_main_v14_apply, val_main_v13_apply,
    val_main_v12_apply, val_main_cst_3_apply, val_main_v7_apply, val_main_v10_apply, val_main_v6_apply, val_main_v9_apply,
    val_main_v8_apply, val_main_call0_v1_apply, val_main_call0_v0_apply, val_main_cst_1_apply, val_main_call1_v1_apply,
    val_main_call1_v0_apply, val_main_cst_2_apply, val_main_v20_apply, val_main_v19_apply, val_main_cst_5_apply,
    val_main_v18_apply, val_main_v17_apply, val_main_cst_4_apply, prob_apply]
  show (-(x1 i * max (Ideal.ofBits .f32 0xC2C80000#32) (Ideal.log (prob (x0 i)))
    + (Ideal.ofBits .f32 0x3F800000#32 - x1 i) * max (Ideal.ofBits .f32 0xC2C80000#32) (Ideal.log1p (-prob (x0 i)))))
      * Ideal.div (Ideal.ofBits .f32 0x3F800000#32) (x2 i + Ideal.ofBits .f32 0x358637BD#32) = _
  rw [Ideal.ofBits_one_f32, ofBits_clamp]
  rfl

/-- The reference's segmentation loss. -/
theorem seg_eq (x0 x1 x2 : Vec Ideal S8x1024x1024 .f32) :
    val_main_v23 (F := Ideal) x0 x1 x2 = fun _ => Ideal.div (∑ b : Fin 8, ∑ r : Fin 1024, ∑ c : Fin 1024,
      entropyOfProb (prob (x0 (ix3 b r c))) (x1 (ix3 b r c)) (x2 (ix3 b r c))) ((8388608 : ℝ) : EReal) := by
  funext i
  rw [val_main_v23_apply, val_main_v22_apply, val_main_cst_6_apply, val_main_cst_7_apply]
  show Ideal.div (Ideal.ofBits .f32 0x00000000#32 + _) (Ideal.ofBits .f32 0x4B000000#32) = _
  rw [Ideal.ofBits_zero_f32, zero_add, ofBits_pixels, Sums.sum_three]
  simp only [entropy_apply]

/-- The part of a distance over 2. -/
theorem over_apply (x5 : Vec Ideal S8x4096 .f32) (i : S8x4096.Idx) :
    val_main_v93 (F := Ideal) x5 i = max ((x5 i : EReal) - ((2 : ℝ) : EReal)) (0 : EReal) := by
  rw [val_main_v93_apply, val_main_v92_apply, val_main_v91_apply, val_main_cst_30_apply, val_main_call10_v0_apply,
    val_main_call10_cst_apply]
  show max ((x5 i : EReal) - Ideal.ofBits .f32 0x40000000#32) (Ideal.ofBits .f32 0x00000000#32) = _
  rw [ofBits_two, Ideal.ofBits_zero_f32]

/-- The reference's uncertainty loss. -/
theorem uncert_eq (x3 x4 : Vec Ideal S8x1024x1024 .f32) (x5 : Vec Ideal S8x4096 .f32) :
    val_main_v103 (F := Ideal) x3 x4 x5 = fun _ =>
      Ideal.div (∑ b : Fin 8, ∑ j : Fin 4096, max ((x5 (ix2 b j) : EReal) - ((2 : ℝ) : EReal)) (0 : EReal)) ((32768 : ℝ) : EReal)
      + Ideal.div (∑ b : Fin 8, ∑ r : Fin 1024, ∑ c : Fin 1024, ((x3 (ix3 b r c) : EReal) + x4 (ix3 b r c))) ((8388608 : ℝ) : EReal) := by
  have he : ∀ i, val_main_v99 (F := Ideal) x3 x4 i =
      Ideal.div (∑ b : Fin 8, ∑ r : Fin 1024, ∑ c : Fin 1024, ((x3 (ix3 b r c) : EReal) + x4 (ix3 b r c))) ((8388608 : ℝ) : EReal) := by
    intro i
    rw [val_main_v99_apply, val_main_v98_apply, val_main_cst_33_apply, val_main_cst_34_apply]
    show Ideal.div (Ideal.ofBits .f32 0x00000000#32 + _) (Ideal.ofBits .f32 0x4B000000#32) = _
    rw [Ideal.ofBits_zero_f32, zero_add, ofBits_pixels, Sums.sum_three]
    rfl
  have ho : ∀ b : Fin 8, val_main_v96 (F := Ideal) x5 (ix1 b) =
      Ideal.div (∑ j : Fin 4096, max ((x5 (ix2 b j) : EReal) - ((2 : ℝ) : EReal)) (0 : EReal)) ((4096 : ℝ) : EReal) := by
    intro b
    rw [val_main_v96_apply, val_main_v94_apply, val_main_v95_apply, val_main_cst_31_apply, val_main_cst_32_apply]
    show Ideal.div (Ideal.ofBits .f32 0x00000000#32 + _) (Ideal.ofBits .f32 0x45800000#32) = _
    rw [Ideal.ofBits_zero_f32, zero_add, ofBits_row]
    refine congrArg (Ideal.div · _) (Finset.sum_congr rfl fun j _ => ?_)
    rw [over_apply, eq_ix2 (idx_main_v94 (ix1 b) j)]
    rfl
  funext i
  rw [val_main_v103_apply, val_main_v102_apply, val_main_cst_35_apply, val_main_cst_36_apply]
  show Ideal.div (Ideal.ofBits .f32 0x00000000#32 + _) (Ideal.ofBits .f32 0x41000000#32) = _
  rw [Ideal.ofBits_zero_f32, zero_add, ofBits_images, Sums.sum_one, ← Sums.mean_split]
  refine congrArg (Ideal.div · _) (Finset.sum_congr rfl fun b _ => ?_)
  rw [val_main_v101_apply, val_main_v100_apply, he, ho]
  rfl

/-- The boundaries of the bins are the tenths. -/
theorem bound_apply (k : Fin 11) : val_main_v24 (F := Ideal) (ix1 k) = bound k.val := by
  unfold val_main_v24
  by_cases hk : k.val < 10
  · refine (concatenate_pair_apply_left (0 : Fin S11.rank) _ _ concatenates_S10_S1_S11_d0 (ix1 k) rfl (ix1 (⟨k.val, hk⟩ : Fin 10))
      (fun b => by match b with | ⟨0, _⟩ => rfl)).trans ?_
    rw [val_main_call2_v15_apply, val_main_call2_v11_apply, val_main_call2_v14_apply, val_main_call2_v10_apply,
      val_main_call2_v13_apply, val_main_call2_v9_apply, val_main_call2_v8_apply, val_main_call2_cst_1_apply,
      val_main_call2_v6_apply, val_main_call2_v5_apply, val_main_call2_cst_0_apply]
    show Ideal.ofBits .f32 0x00000000#32 * (Ideal.ofBits .f32 0x3F800000#32
        - Ideal.div (((BitVec.ofNat 32 k.val).toInt : ℝ) : EReal) (Ideal.ofBits .f32 0x41200000#32))
      + Ideal.ofBits .f32 0x3F800000#32 * Ideal.div (((BitVec.ofNat 32 k.val).toInt : ℝ) : EReal) (Ideal.ofBits .f32 0x41200000#32) = _
    have hi : ∀ k : Fin 11, (BitVec.ofNat 32 k.val).toInt = (k.val : ℤ) := by decide +kernel
    rw [Ideal.ofBits_zero_f32, Ideal.ofBits_one_f32, ofBits_ten, zero_mul, zero_add, one_mul, Ideal.div_coe (by norm_num), hi k,
      ← EReal.coe_mul, bound, Int.cast_natCast, mul_one_div]
  · refine (concatenate_pair_apply_right (0 : Fin S11.rank) _ _ concatenates_S10_S1_S11_d0 (ix1 k) rfl rfl (ix1 (0 : Fin 1))
      (fun b hb => absurd (Subsingleton.elim (α := Fin 1) _ _) hb) (by show 0 + 10 = k.val; omega)).trans ?_
    rw [val_main_call2_v16_apply, val_main_call2_v1_apply, val_main_cst_9_apply]
    show Ideal.ofBits .f32 0x3F800000#32 = _
    rw [Ideal.ofBits_one_f32, bound, show k.val = 10 by omega]
    norm_num

end Cert.Proof.RefPixel

end
-- ==== Proof.RefCal.lean ====
module

public import proofs.«01_k».proof.Proof.RefPixel
public import proofs.«01_k».proof.Proof.Output

@[expose] public section

set_option maxRecDepth 65536

noncomputable section

/-! The reference's calibration loss over the extended reals, for real logits and real labels. -/

namespace Cert.Proof.RefCal

open Cert.ReferenceIdeal Cert.ReferenceIdeal.Gen Cert.ReferenceIdeal.Read Idealize.ShloMosaic Cert.Proof.Pixel Cert.Proof.Bins
open Idealize.ShloMosaic.ValueIdx

/-- The probability at place `n` of an image's pixels in row-major order. -/
theorem flat_prob (x0 : Vec Ideal S8x1024x1024 .f32) (b : Fin 8) (n : Fin 1048576) :
    val_main_v25 (F := Ideal) x0 (ix2 b n) = prob (x0 (ix3 b (Sums.flatEquiv n).1 (Sums.flatEquiv n).2)) := by
  rw [val_main_v25_apply, RefPixel.prob_apply]
  congr 2
  refine (eq_ix3 _).trans ?_
  congr 1 <;> refine Fin.ext ?_
  · show (b.val * 1048576 + n.val) / 1048576 = b.val
    omega
  · show (b.val * 1048576 + n.val) / 1024 % 1024 = n.val / 1024
    omega
  · show (b.val * 1048576 + n.val) % 1024 = n.val % 1024
    omega

/-- The label at place `n` of an image's pixels in row-major order. -/
theorem flat_label (x1 : Vec Ideal S8x1024x1024 .f32) (b : Fin 8) (n : Fin 1048576) :
    val_main_v26 (F := Ideal) x1 (ix2 b n) = x1 (ix3 b (Sums.flatEquiv n).1 (Sums.flatEquiv n).2) := by
  rw [val_main_v26_apply]
  congr 1
  refine (eq_ix3 _).trans ?_
  congr 1 <;> refine Fin.ext ?_
  · show (b.val * 1048576 + n.val) / 1048576 = b.val
    omega
  · show (b.val * 1048576 + n.val) / 1024 % 1024 = n.val / 1024
    omega
  · show (b.val * 1048576 + n.val) % 1024 = n.val % 1024
    omega

/-- Whether the probability reaches boundary `k`. -/
theorem reach_apply (x0 : Vec Ideal S8x1024x1024 .f32) (b : Fin 8) (n : Fin 1048576) (k : Fin 11) :
    val_main_v33 (F := Ideal) x0 (ix3 b n k) =
      (Ideal.cmp .ole (bound k.val) (val_main_v25 (F := Ideal) x0 (ix2 b n))).setWidth 32 := by
  rw [val_main_v33_apply, val_main_v32_apply, val_main_v30_apply, val_main_v29_apply, val_main_v27_apply, val_main_v31_apply,
    val_main_v28_apply, ← RefPixel.bound_apply]
  rw [eq_ix1 (idx_main_v27 _), eq_ix2 (idx_main_v28 _)]
  rfl

/-- How many boundaries the probability reaches. -/
theorem reached_apply (x0 : Vec Ideal S8x1024x1024 .f32) (b : Fin 8) (n : Fin 1048576) :
    val_main_v34 (F := Ideal) x0 (ix2 b n) = (Finset.univ : Finset (Fin 11)).fold IntOp.addi 0#32 fun k =>
      (Ideal.cmp .ole (bound k.val) (val_main_v25 (F := Ideal) x0 (ix2 b n))).setWidth 32 := by
  unfold val_main_v34
  refine (Host.reduce_eq_fold_single IntOp.addi _ _ reducesTo_S8x1048576x11_S8x1048576_d2 (by decide) h_S_ _).trans ?_
  rw [val_main_c_apply]
  refine Finset.fold_congr fun k _ => ?_
  refine Eq.trans ?_ (reach_apply x0 b n k)
  refine congrArg (val_main_v33 (F := Ideal) x0) ?_
  exact funext fun a => Fin.ext (by match a with | ⟨0, _⟩ => rfl | ⟨1, _⟩ => rfl | ⟨2, _⟩ => rfl)

/-- The number of the bin as the reference forms it. -/
theorem word_apply (x0 : Vec Ideal S8x1024x1024 .f32) (b : Fin 8) (n : Fin 1048576) :
    val_main_v37 (F := Ideal) x0 (ix2 b n) =
      binWord (fun k => Ideal.cmp .ole (bound k.val) (val_main_v25 (F := Ideal) x0 (ix2 b n))) := by
  rw [val_main_v37_apply, val_main_call3_v4_apply, val_main_call3_v3_apply, val_main_c_12_apply, val_main_call3_v2_apply,
    val_main_call3_v1_apply, val_main_call3_v0_apply, val_main_c_11_apply, val_main_v36_apply, val_main_v35_apply,
    val_main_c_10_apply, reached_apply, binWord]

/-- Comparing two words for equality. -/
theorem cmpi_eq (a b : BitVec 32) : IntOp.cmpi .eq a b = BitVec.ofBool (decide (a = b)) := by
  show BitVec.ofBool (a == b) = _
  rw [beq_eq_decide]

section

variable (x0 x1 : Vec Ideal S8x1024x1024 .f32) (x y : Fin 8 → Fin 1024 × Fin 1024 → ℝ)
variable (hx : ∀ b p, x0 (ix3 b p.1 p.2) = ((x b p : ℝ) : EReal)) (hy : ∀ b p, x1 (ix3 b p.1 p.2) = ((y b p : ℝ) : EReal))

include hx

/-- The number of the bin is the tenth the probability lies in. -/
theorem bin_apply (b : Fin 8) (n : Fin 1048576) :
    val_main_v37 (F := Ideal) x0 (ix2 b n) = BitVec.ofNat 32 (tenth (probR (x b (Sums.flatEquiv n)))) := by
  rw [word_apply, flat_prob, hx, binWord_eq]

/-- A quantity selected where the bin is `j`, else zero. -/
theorem pick (b : Fin 8) (j : Fin 11) (n : Fin 1048576) (v : EReal) :
    Scalar.select (IntOp.cmpi .eq (val_main_v37 (F := Ideal) x0 (ix2 b n)) (BitVec.ofNat 32 j.val)) v (0 : EReal)
      = if tenth (probR (x b (Sums.flatEquiv n))) = j.val then v else 0 := by
  rw [cmpi_eq, Output.select_ofBool, bin_apply x0 x hx]
  exact if_congr (word_eq_iff _ _ j.isLt) rfl rfl

/-- The counts. -/
theorem count_apply (b : Fin 8) (j : Fin 10) : val_main_v49 (F := Ideal) x0 (ix2 b j) = Bins.count (x b) j.val := by
  rw [val_main_v49_apply, val_main_v48_apply, val_main_cst_15_apply]
  show Ideal.ofBits .f32 0x00000000#32 + _ = _
  rw [Ideal.ofBits_zero_f32, zero_add, Bins.count, ← Sums.sum_flat fun p => bit (tenth (probR (x b p)) = j.val)]
  refine Finset.sum_congr rfl fun n _ => ?_
  rw [val_main_v47_apply, val_main_v45_apply, val_main_v43_apply, val_main_v39_apply, val_main_v44_apply, val_main_v42_apply,
    val_main_v41_apply, val_main_v40_apply, val_main_call4_v4_apply, val_main_call4_v1_apply, val_main_v46_apply,
    val_main_v38_apply, val_main_cst_13_apply, val_main_call4_v3_apply, val_main_call4_v2_apply, val_main_call4_v0_apply,
    val_main_cst_14_apply, eq_ix2 (idx_main_v39 _)]
  show Scalar.select _ (Ideal.ofBits .f32 0x3F800000#32) (Ideal.ofBits .f32 0x00000000#32) = _
  rw [Ideal.ofBits_zero_f32, Ideal.ofBits_one_f32]
  exact pick x0 x hx b ⟨j.val, by omega⟩ n 1

/-- The sums of the probabilities. -/
theorem probs_apply (b : Fin 8) (j : Fin 10) :
    val_main_v60 (F := Ideal) x0 (ix2 b j) = inBin (x b) (fun p => prob (x b p)) j.val := by
  rw [val_main_v60_apply, val_main_v59_apply, val_main_cst_17_apply]
  show Ideal.ofBits .f32 0x00000000#32 + _ = _
  rw [Ideal.ofBits_zero_f32, zero_add, inBin,
    ← Sums.sum_flat fun p => if tenth (probR (x b p)) = j.val then prob (x b p) else 0]
  refine Finset.sum_congr rfl fun n _ => ?_
  rw [val_main_v58_apply, val_main_v56_apply, val_main_v54_apply, val_main_v50_apply, val_main_v55_apply, val_main_v53_apply,
    val_main_v52_apply, val_main_v51_apply, val_main_call5_v1_apply, val_main_v57_apply, val_main_call5_v3_apply,
    val_main_call5_v2_apply, val_main_call5_v0_apply, val_main_cst_16_apply, eq_ix2 (idx_main_v50 _), eq_ix2 (idx_main_v57 _)]
  show Scalar.select _ (val_main_v25 (F := Ideal) x0 (ix2 b n)) (Ideal.ofBits .f32 0x00000000#32) = _
  rw [Ideal.ofBits_zero_f32, flat_prob, hx]
  exact pick x0 x hx b ⟨j.val, by omega⟩ n _

include hy

/-- The sums of the labels. -/
theorem labels_apply (b : Fin 8) (j : Fin 10) :
    val_main_v71 (F := Ideal) x0 x1 (ix2 b j) = inBin (x b) (fun p => ((y b p : ℝ) : EReal)) j.val := by
  rw [val_main_v71_apply, val_main_v70_apply, val_main_cst_19_apply]
  show Ideal.ofBits .f32 0x00000000#32 + _ = _
  rw [Ideal.ofBits_zero_f32, zero_add, inBin,
    ← Sums.sum_flat fun p => if tenth (probR (x b p)) = j.val then ((y b p : ℝ) : EReal) else 0]
  refine Finset.sum_congr rfl fun n _ => ?_
  rw [val_main_v69_apply, val_main_v67_apply, val_main_v65_apply, val_main_v61_apply, val_main_v66_apply, val_main_v64_apply,
    val_main_v63_apply, val_main_v62_apply, val_main_call6_v1_apply, val_main_v68_apply, val_main_call6_v3_apply,
    val_main_call6_v2_apply, val_main_call6_v0_apply, val_main_cst_18_apply, eq_ix2 (idx_main_v61 _), eq_ix2 (idx_main_v68 _)]
  show Scalar.select _ (val_main_v26 (F := Ideal) x1 (ix2 b n)) (Ideal.ofBits .f32 0x00000000#32) = _
  rw [Ideal.ofBits_zero_f32, flat_label, hy]
  exact pick x0 x hx b ⟨j.val, by omega⟩ n _

omit hy

/-- Whether a bin has members. -/
theorem valid_apply (b : Fin 8) (j : Fin 10) :
    val_main_v73 (F := Ideal) x0 (ix2 b j) = BitVec.ofBool (decide (0 < Bins.count (x b) j.val)) := by
  rw [val_main_v73_apply, val_main_v72_apply, val_main_cst_20_apply, count_apply x0 x hx]
  show BitVec.ofBool (decide (Ideal.ofBits .f32 0x00000000#32 < Bins.count (x b) j.val)) = _
  rw [Ideal.ofBits_zero_f32]

/-- The counts with one for an empty bin. -/
theorem safe_apply (b : Fin 8) (j : Fin 10) : val_main_v74 (F := Ideal) x0 (ix2 b j) = safe (Bins.count (x b) j.val) := by
  rw [val_main_v74_apply, valid_apply x0 x hx, count_apply x0 x hx, val_main_call7_v2_apply, val_main_call7_v1_apply,
    val_main_call7_v0_apply, val_main_cst_21_apply, Output.select_ofBool]
  show (if _ then _ else Ideal.ofBits .f32 0x3F800000#32) = _
  rw [Ideal.ofBits_one_f32, safe]

/-- How many bins have members. -/
theorem valids_apply (b : Fin 8) : val_main_v80 (F := Ideal) x0 (ix1 b) = ∑ j : Fin 10, bit (0 < Bins.count (x b) j.val) := by
  rw [val_main_v80_apply, val_main_cst_22_apply]
  show Ideal.ofBits .f32 0x00000000#32 + _ = _
  rw [Ideal.ofBits_zero_f32, zero_add]
  refine Finset.sum_congr rfl fun j _ => ?_
  rw [val_main_v79_apply, eq_ix2 (idx_main_v80 (ix1 b) j)]
  refine (congrArg (FloatOps.uitofp (F := Ideal) .f32) (valid_apply x0 x hx b j)).trans ?_
  unfold bit
  split
  · next h => rw [decide_eq_true h]; show (((1 : ℕ) : ℝ) : EReal) = 1; norm_num
  · next h => rw [decide_eq_false h]; show (((0 : ℕ) : ℝ) : EReal) = 0; norm_num

include hy

/-- The errors. -/
theorem err_apply (b : Fin 8) (j : Fin 10) : val_main_v78 (F := Ideal) x0 x1 (ix2 b j) = binErr (x b) (y b) j.val := by
  rw [val_main_v78_apply, val_main_v77_apply, val_main_v75_apply, val_main_v76_apply, probs_apply x0 x hx,
    labels_apply x0 x1 x y hx hy, safe_apply x0 x hx]
  rfl

/-- An image's calibration loss. -/
theorem image_apply (b : Fin 8) : val_main_v88 (F := Ideal) x0 x1 (ix1 b) =
    calib (fun j => Bins.count (x b) j.val) (fun j => binErr (x b) (y b) j.val) := by
  have hs : val_main_v84 (F := Ideal) x0 x1 (ix1 b) = ∑ j : Fin 10, if 0 < Bins.count (x b) j.val then binErr (x b) (y b) j.val else 0 := by
    rw [val_main_v84_apply, val_main_cst_25_apply]
    show Ideal.ofBits .f32 0x00000000#32 + _ = _
    rw [Ideal.ofBits_zero_f32, zero_add]
    refine Finset.sum_congr rfl fun j _ => ?_
    have hj : idx_main_v84 (ix1 b) j = ix2 b j := eq_ix2 _
    rw [hj, val_main_v83_apply, valid_apply x0 x hx, err_apply x0 x1 x y hx hy, val_main_call8_v2_apply, val_main_call8_v1_apply,
      val_main_call8_v0_apply, val_main_cst_24_apply, Output.select_ofBool]
    show (if _ then _ else Ideal.ofBits .f32 0x00000000#32) = _
    rw [Ideal.ofBits_zero_f32]
  rw [val_main_v88_apply, val_main_v82_apply, val_main_v81_apply, val_main_cst_23_apply, val_main_v87_apply, val_main_v86_apply,
    val_main_v85_apply, val_main_cst_26_apply, val_main_call9_v1_apply, val_main_call9_v0_apply, val_main_cst_27_apply,
    valids_apply x0 x hx, hs]
  show Scalar.select (BitVec.ofBool (decide (Ideal.ofBits .f32 0x00000000#32 < _)))
    (Ideal.div _ (max _ (Ideal.ofBits .f32 0x3F800000#32))) (Ideal.ofBits .f32 0x00000000#32) = _
  rw [Output.select_ofBool, Ideal.ofBits_one_f32, calib]
  simp only [Ideal.ofBits_zero_f32]

/-- The reference's calibration loss: the mean over the images. -/
theorem cal_eq : val_main_v90 (F := Ideal) x0 x1 = fun _ =>
    Ideal.div (∑ b : Fin 8, calib (fun j => Bins.count (x b) j.val) (fun j => binErr (x b) (y b) j.val)) ((8 : ℝ) : EReal) := by
  funext i
  rw [val_main_v90_apply, val_main_v89_apply, val_main_cst_28_apply, val_main_cst_29_apply]
  show Ideal.div (Ideal.ofBits .f32 0x00000000#32 + _) (Ideal.ofBits .f32 0x41000000#32) = _
  rw [Ideal.ofBits_zero_f32, zero_add, RefPixel.ofBits_images, Sums.sum_one]
  exact congrArg (Ideal.div · _) (Finset.sum_congr rfl fun b _ => image_apply x0 x1 x y hx hy b)

end

end Cert.Proof.RefCal

end
-- ==== Proof.Values.lean ====
module

public import proofs.«01_k».proof.Proof.KernelValue
public import proofs.«01_k».proof.Proof.RefCal

@[expose] public section

set_option maxRecDepth 65536

noncomputable section

/-! The four results of the kernel and of the reference over the extended reals are equal, for real logits in
    `[-99, 99]` and real labels. -/

namespace Cert.Proof.Values

open Cert.KernelIdeal Cert.KernelIdeal.Gen Idealize.ShloMosaic.TcCoe Idealize.SL.Sem
open Idealize.ShloMosaic hiding ix1 ix2 ix3
open Cert.Proof.Points Cert.Proof.KernelValue Cert.ReferenceIdeal.Read Idealize.ShloMosaic.ValueIdx

variable (m : (ℓ : Loc nD τ sig) → Buf (Elt Ideal) ℓ) (c : Dev nD)

/-- The logits, the kernel's first argument. -/
abbrev logits : Vec Ideal S8x1024x1024 .f32 := m ((c : Thread nD τ).loc main_arg0)
/-- The labels. -/
abbrev labels : Vec Ideal S8x1024x1024 .f32 := m ((c : Thread nD τ).loc main_arg1)
/-- The total uncertainties. -/
abbrev uncertainty : Vec Ideal S8x1024x1024 .f32 := m ((c : Thread nD τ).loc main_arg2)
/-- The aleatoric uncertainties. -/
abbrev aleatoric : Vec Ideal S8x1024x1024 .f32 := m ((c : Thread nD τ).loc main_arg3)
/-- The epistemic uncertainties. -/
abbrev epistemic : Vec Ideal S8x1024x1024 .f32 := m ((c : Thread nD τ).loc main_arg4)
/-- The distances. -/
abbrev distances : Vec Ideal S8x4096 .f32 := m ((c : Thread nD τ).loc main_arg5)

/-- An image's row sum by rows and columns. -/
theorem sums_rows (b : Fin 8) (r : ℕ) (hr : r < 23) : sums m c b r = ∑ R : Fin 1024, ∑ C : Fin 1024,
    Block.pix r (logits m c (ix3 b R C)) (labels m c (ix3 b R C)) (uncertainty m c (ix3 b R C)) (aleatoric m c (ix3 b R C))
      (epistemic m c (ix3 b R C)) := by
  unfold sums
  rw [if_pos hr, total, image_eq]

/-- An image's row sum by pixels. -/
theorem sums_pixels (b : Fin 8) (r : ℕ) (hr : r < 23) : sums m c b r = ∑ p : Fin 1024 × Fin 1024,
    Block.pix r (logits m c (ix3 b p.1 p.2)) (labels m c (ix3 b p.1 p.2)) (uncertainty m c (ix3 b p.1 p.2))
      (aleatoric m c (ix3 b p.1 p.2)) (epistemic m c (ix3 b p.1 p.2)) :=
  (sums_rows m c b r hr).trans (Sums.sum_pair fun R C => Block.pix r (logits m c (ix3 b R C)) (labels m c (ix3 b R C))
    (uncertainty m c (ix3 b R C)) (aleatoric m c (ix3 b R C)) (epistemic m c (ix3 b R C))).symm

/-- The uncertainty losses are equal. -/
theorem uncert_agree : val_main_v103 (F := Ideal) (aleatoric m c) (epistemic m c) (distances m c) = uncertOf (rows m c) := by
  rw [RefPixel.uncert_eq, KernelValue.uncert_eq]
  funext _
  refine congrArg₂ (fun a b : EReal => a + b) rfl ?_
  refine congrArg (Ideal.div · _) (Finset.sum_congr rfl fun b _ => ?_)
  rw [sums_rows m c b 22 (by norm_num)]
  rfl

section

variable (x y : Fin 8 → Fin 1024 × Fin 1024 → ℝ)
variable (hx : ∀ b p, logits m c (ix3 b p.1 p.2) = ((x b p : ℝ) : EReal))
variable (hy : ∀ b p, labels m c (ix3 b p.1 p.2) = ((y b p : ℝ) : EReal))

include hx

/-- The first ten row sums are the cumulative counts. -/
theorem sums_reach (b : Fin 8) (r : ℕ) (hr : r < 10) : sums m c b r = Bins.reach (x b) (r + 1) := by
  rw [sums_pixels m c b r (by omega), Bins.reach]
  refine Finset.sum_congr rfl fun p _ => ?_
  rw [hx, Block.pix, if_pos hr]

/-- A count from the row sums is the number of the bin's members. -/
theorem cnt_eq (b : Fin 8) (j : Fin 10) : Output.cnt (sums m c b) j.val = Bins.count (x b) j.val := by
  rw [← Bins.reach_sub, Output.cnt, sums_reach m c x hx b j.val j.isLt]
  by_cases h : j.val = 0
  · have hn : (Fintype.card (Fin 1024 × Fin 1024) : ℝ) = 1048576 := by
      rw [Fintype.card_prod, Fintype.card_fin]; norm_num
    rw [if_pos h, h, Bins.reach_zero, hn]
  · rw [if_neg h, sums_reach m c x hx b (j.val - 1) (by omega), Nat.sub_add_cancel (by omega)]

include hy

/-- The next eleven row sums are the cumulative deviations. -/
theorem sums_dev (b : Fin 8) (j : ℕ) (hj : j < 11) : sums m c b (10 + j) = Bins.dev (x b) (y b) j := by
  rw [sums_pixels m c b (10 + j) (by omega)]
  by_cases h : j = 0
  · rw [h, ← Bins.devAll_eq, Bins.devAll]
    refine Finset.sum_congr rfl fun p _ => ?_
    rw [hx, hy, Block.pix, if_neg (by omega), if_pos rfl]
  · rw [Bins.dev]
    refine Finset.sum_congr rfl fun p _ => ?_
    rw [hx, hy, Block.pix, if_neg (by omega), if_neg (by omega), if_pos (by omega), Nat.add_sub_cancel_left]

/-- An error from the row sums is the bin's. -/
theorem err_eq (b : Fin 8) (j : Fin 10) : Output.err (sums m c b) j.val = Bins.binErr (x b) (y b) j.val := by
  rw [← Bins.dev_err, Output.err, cnt_eq m c x hx, ← Bins.reach_sub, sums_dev m c x y hx hy b j.val (by omega),
    sums_dev m c x y hx hy b (j.val + 1) (by omega)]

/-- The calibration losses are equal. -/
theorem cal_agree : val_main_v90 (F := Ideal) (logits m c) (labels m c) = calOf (rows m c) := by
  rw [RefCal.cal_eq (logits m c) (labels m c) x y hx hy, KernelValue.cal_eq]
  funext _
  refine congrArg (Ideal.div · _) (Finset.sum_congr rfl fun b _ => ?_)
  exact Bins.calib_congr (fun j => (cnt_eq m c x hx b j).symm) (fun j => (err_eq m c x y hx hy b j).symm)

variable (hb : ∀ b p, |x b p| ≤ 99)

include hb

/-- The segmentation losses are equal. -/
theorem seg_agree : val_main_v23 (F := Ideal) (logits m c) (labels m c) (uncertainty m c) = segOf (rows m c) := by
  rw [RefPixel.seg_eq, KernelValue.seg_eq]
  funext _
  refine congrArg (Ideal.div · _) (Finset.sum_congr rfl fun b _ => ?_)
  rw [sums_rows m c b 21 (by norm_num)]
  refine Finset.sum_congr rfl fun R _ => Finset.sum_congr rfl fun C _ => ?_
  rw [hx b (R, C), hy b (R, C), Pixel.entropy_eq _ _ (hb b (R, C))]
  rfl

/-- The totals are equal. -/
theorem total_agree : val_main_v107 (F := Ideal) (logits m c) (labels m c) (uncertainty m c) (aleatoric m c) (epistemic m c)
    (distances m c) = totalOf (rows m c) := by
  unfold totalOf
  rw [← seg_agree m c x y hx hy hb, ← cal_agree m c x y hx hy, ← uncert_agree m c]
  funext i
  rw [val_main_v107_apply, val_main_v105_apply, val_main_v104_apply, val_main_cst_37_apply, val_main_v106_apply,
    val_main_cst_38_apply]
  refine congrArg₂ (fun a b : EReal => a + b) (congrArg₂ (fun a b : EReal => a + b) rfl ?_) rfl
  show Ideal.ofBits .f32 0x3F800000#32 * (val_main_v90 (F := Ideal) (logits m c) (labels m c) i : EReal) = _
  rw [Ideal.ofBits_one_f32, one_mul]

end

end Cert.Proof.Values

end
-- ==== Proof.Agree.lean ====
module

public import proofs.«01_k».proof.Defs
public import proofs.«01_k».proof.Proof.Values

@[expose] public section

set_option maxRecDepth 65536

noncomputable section

/-! The claims about the reference's run and the value claim. -/

namespace Cert.Proof.Agree

open Idealize.SL.Sem Idealize.ShloMosaic.TcCoe
open Idealize.ShloMosaic hiding ix1 ix2 ix3
open Idealize.ShloMosaic.ValueIdx

/-- The stated facts of the precondition. -/
theorem facts_pre : Cert.Pre_logits_and_labels_tame.Facts := ⟨by decide⟩

attribute [local instance] facts_pre

/-- The reference leaves its arguments unchanged and every counter at zero: it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) :=
  (θ_run Cert.ReferenceIdeal.defs _ _).mono
    (fun r h => ⟨fun c => (h c).2.2.2.2, sem_eq_zero_of_no_sems (by decide) r.2⟩)
    (Cert.ReferenceIdeal.Value.run (F := Ideal) m ρ)

/-- The limit of the logits is 99. -/
theorem ofBits_limit : Ideal.ofBits .f32 0x42C60000#32 = ((99 : ℝ) : EReal) := by
  simp [Ideal.ofBits, Ideal.ieee, -EReal.coe_mul]; norm_num

/-- The bound of the labels is infinity. -/
theorem ofBits_top : Ideal.ofBits .f32 0x7F800000#32 = ⊤ := by
  simp [Ideal.ofBits, Ideal.ieee]

/-- Two bits whose conjunction is one are both one. -/
theorem both (p q : Prop) [Decidable p] [Decidable q]
    (h : IntOp.andi (BitVec.ofBool (decide p)) (BitVec.ofBool (decide q)) = 1#1) : p ∧ q := by
  by_cases hp : p <;> by_cases hq : q <;> simp [hp, hq, IntOp.andi] at h ⊢

/-- A number whose absolute value is at most a real number is real, and so bounded. -/
theorem real_of_abs_le (a : EReal) (n : ℝ) (h : max a (-a) ≤ (n : EReal)) : ∃ x : ℝ, a = x ∧ |x| ≤ n := by
  induction a using EReal.rec with
  | bot => exact absurd (le_trans (le_max_right _ _) h) (by simp)
  | top => exact absurd (le_trans (le_max_left _ _) h) (by simp)
  | coe x =>
    refine ⟨x, rfl, abs_le'.mpr ⟨?_, ?_⟩⟩
    · exact EReal.coe_le_coe_iff.mp (le_trans (le_max_left _ _) h)
    · have := le_trans (le_max_right _ _) h
      rw [← EReal.coe_neg] at this
      exact EReal.coe_le_coe_iff.mp this

/-- A number whose absolute value is below infinity is real. -/
theorem real_of_abs_lt (a : EReal) (h : max a (-a) < ⊤) : ∃ x : ℝ, a = x := by
  induction a using EReal.rec with
  | bot => simp at h
  | top => simp at h
  | coe x => exact ⟨x, rfl⟩

/-- What the precondition says of one pixel. -/
theorem pre_apply (x0 x1 x2 x3 x4 : Vec Ideal Cert.KernelIdeal.S8x1024x1024 .f32) (x5 : Vec Ideal Cert.KernelIdeal.S8x4096 .f32)
    (h : Cert.Pre_logits_and_labels_tame.fn (F := Ideal) x0 x1 x2 x3 x4 x5 = fun _ => 1#1) (i : Cert.KernelIdeal.S8x1024x1024.Idx) :
    (∃ x : ℝ, x0 i = (x : EReal) ∧ |x| ≤ 99) ∧ ∃ y : ℝ, x1 i = (y : EReal) := by
  have hi := congrFun h i
  have e : IntOp.andi (BitVec.ofBool (decide (max (x0 i : EReal) (-x0 i) ≤ Ideal.ofBits .f32 0x42C60000#32)))
      (BitVec.ofBool (decide (max (x1 i : EReal) (-x1 i) < Ideal.ofBits .f32 0x7F800000#32))) = 1#1 := hi
  have hb := both _ _ e
  rw [ofBits_limit, ofBits_top] at hb
  exact ⟨real_of_abs_le _ _ hb.1, real_of_abs_lt _ hb.2⟩

/-- The value claim: under the precondition the kernel and the reference end with equal results. -/
theorem algebraic : Cert.algebraic_KernelIdeal_ReferenceIdeal_pre_logits_and_labels_tame := by
  intro m g m' g' hp ha
  have hv : ∀ c : Dev Cert.KernelIdeal.nD, ∃ x y : Fin 8 → Fin 1024 × Fin 1024 → ℝ,
      (∀ b (p : Fin 1024 × Fin 1024), Values.logits m c (ix3 b p.1 p.2) = ((x b p : ℝ) : EReal)) ∧
      (∀ b (p : Fin 1024 × Fin 1024), Values.labels m c (ix3 b p.1 p.2) = ((y b p : ℝ) : EReal)) ∧ ∀ b p, |x b p| ≤ 99 := by
    intro c
    have hi := fun (b : Fin 8) (p : Fin 1024 × Fin 1024) => pre_apply _ _ _ _ _ _ (hp c) (ix3 b p.1 p.2)
    choose hx hy using hi
    choose x hx using hx
    choose y hy using hy
    exact ⟨x, y, fun b p => (hx b p).1, hy, fun b p => (hx b p).2⟩
  refine ⟨fun c => KernelValue.totalOf (KernelValue.rows m c), fun c => KernelValue.segOf (KernelValue.rows m c),
    fun c => KernelValue.calOf (KernelValue.rows m c), fun c => KernelValue.uncertOf (KernelValue.rows m c), ?_, ?_⟩
  · refine (θ_run _ _ _).mono (fun r h c => ?_) (θ_run_and (KernelValue.run m g) (Cert.KernelIdeal.Gen.unchanged m g))
    exact ⟨(h.1 c).1, (h.1 c).2.1, (h.1 c).2.2.1, (h.1 c).2.2.2, h.2 c⟩
  · refine (θ_run _ _ _).mono (fun r h c => ?_) (Cert.ReferenceIdeal.Value.run (F := Ideal) m' g')
    obtain ⟨x, y, hx, hy, hb⟩ := hv c
    obtain ⟨a0, a1, a2, a3, a4, a5⟩ := ha c
    obtain ⟨h0, h1, h2, h3, h4⟩ := h c
    refine ⟨h0.trans ?_, h1.trans ?_, h2.trans ?_, h3.trans ?_, h4⟩
    · refine (Cert.ReferenceIdeal.Read.val_main_v107_eq _).trans ?_
      rw [StableHlo.launchContents_devRef, StableHlo.launchContents_devRef, StableHlo.launchContents_devRef,
        StableHlo.launchContents_devRef, StableHlo.launchContents_devRef, StableHlo.launchContents_devRef, a0, a1, a2, a3, a4, a5]
      exact Values.total_agree m c x y hx hy hb
    · refine (Cert.ReferenceIdeal.Read.val_main_v23_eq _).trans ?_
      rw [StableHlo.launchContents_devRef, StableHlo.launchContents_devRef, StableHlo.launchContents_devRef, a0, a1, a2]
      exact Values.seg_agree m c x y hx hy hb
    · refine (Cert.ReferenceIdeal.Read.val_main_v90_eq _).trans ?_
      rw [StableHlo.launchContents_devRef, StableHlo.launchContents_devRef, a0, a1]
      exact Values.cal_agree m c x y hx hy
    · refine (Cert.ReferenceIdeal.Read.val_main_v103_eq _).trans ?_
      rw [StableHlo.launchContents_devRef, StableHlo.launchContents_devRef, StableHlo.launchContents_devRef, a3, a4, a5]
      exact Values.uncert_agree m c

end Cert.Proof.Agree

end
-- ==== Proof.lean ====
module

public import proofs.«01_k».proof.Defs
public import proofs.«01_k».proof.Proof.Consts
public import proofs.«01_k».proof.Proof.Agree
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Agree.facts_pre,
    fun m ρ _ => Cert.Kernel.Gen.frame m ρ, fun m ρ _ => Cert.KernelIdeal.Gen.frame m ρ,
    fun m ρ _ => Cert.KernelIdeal.Gen.frame m ρ,
    fun m ρ _ => Agree.frame_reference m ρ, fun m ρ _ => Agree.frame_reference m ρ,
    Consts.preserves, Agree.algebraic⟩

end Cert.Proof

end
